-- ==== Defs.lean ====
def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_SconvIn (m : (ℓ : Loc Cert.SconvIn.nD Cert.SconvIn.τ Cert.SconvIn.sig) → Buf (Elt Bits) ℓ) : Prop :=
  True

def Pre_SconvInIdeal (m : (ℓ : Loc Cert.SconvInIdeal.nD Cert.SconvInIdeal.τ Cert.SconvInIdeal.sig) → Buf (Elt Ideal) ℓ) : Prop :=
  True

def Pre_SconvInRefIdeal (m : (ℓ : Loc Cert.SconvInRefIdeal.nD Cert.SconvInRefIdeal.τ Cert.SconvInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_HgrnQ (m : (ℓ : Loc Cert.HgrnQ.nD Cert.HgrnQ.τ Cert.HgrnQ.sig) → Buf (Elt Bits) ℓ) : Prop :=
  True

def Pre_HgrnQIdeal (m : (ℓ : Loc Cert.HgrnQIdeal.nD Cert.HgrnQIdeal.τ Cert.HgrnQIdeal.sig) → Buf (Elt Ideal) ℓ) : Prop :=
  True

def Pre_HgrnQRefIdeal (m : (ℓ : Loc Cert.HgrnQRefIdeal.nD Cert.HgrnQRefIdeal.τ Cert.HgrnQRefIdeal.sig) → Buf (Elt Ideal) ℓ) : Prop :=
  True

def Pre_HgrnV (m : (ℓ : Loc Cert.HgrnV.nD Cert.HgrnV.τ Cert.HgrnV.sig) → Buf (Elt Bits) ℓ) : Prop :=
  True

def Pre_HgrnVIdeal (m : (ℓ : Loc Cert.HgrnVIdeal.nD Cert.HgrnVIdeal.τ Cert.HgrnVIdeal.sig) → Buf (Elt Ideal) ℓ) : Prop :=
  True

def Pre_HgrnVRefIdeal (m : (ℓ : Loc Cert.HgrnVRefIdeal.nD Cert.HgrnVRefIdeal.τ Cert.HgrnVRefIdeal.sig) → Buf (Elt Ideal) ℓ) : Prop :=
  True

def Pre_HgrnGate (m : (ℓ : Loc Cert.HgrnGate.nD Cert.HgrnGate.τ Cert.HgrnGate.sig) → Buf (Elt Bits) ℓ) : Prop :=
  True

def Pre_HgrnGateIdeal (m : (ℓ : Loc Cert.HgrnGateIdeal.nD Cert.HgrnGateIdeal.τ Cert.HgrnGateIdeal.sig) → Buf (Elt Ideal) ℓ) : Prop :=
  True

def Pre_HgrnGateRefIdeal (m : (ℓ : Loc Cert.HgrnGateRefIdeal.nD Cert.HgrnGateRefIdeal.τ Cert.HgrnGateRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_FfnOutNext (m : (ℓ : Loc Cert.FfnOutNext.nD Cert.FfnOutNext.τ Cert.FfnOutNext.sig) → Buf (Elt Bits) ℓ) : Prop :=
  True

def Pre_FfnOutNextIdeal (m : (ℓ : Loc Cert.FfnOutNextIdeal.nD Cert.FfnOutNextIdeal.τ Cert.FfnOutNextIdeal.sig) → Buf (Elt Ideal) ℓ) : Prop :=
  True

def Pre_FfnOutNextRefIdeal (m : (ℓ : Loc Cert.FfnOutNextRefIdeal.nD Cert.FfnOutNextRefIdeal.τ Cert.FfnOutNextRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_SconvIn [hSconvIn : Cert.SconvIn.Facts] : Prop :=
  ∀ (m : (ℓ : Loc Cert.SconvIn.nD Cert.SconvIn.τ Cert.SconvIn.sig) → Buf (Elt Bits) ℓ) (g : Dev Cert.SconvIn.nD → PrngReg), Pre_SconvIn m →
    θ_run (Cert.SconvIn.defs (F := Bits)) (onTc (τ := Cert.SconvIn.τ) (Cert.SconvIn.main (F := Bits))) ⟨m, fun _ => 0, g⟩ (fun r => (∀ c : Dev Cert.SconvIn.nD,
      r.2.mem ((c.tc : Thread Cert.SconvIn.nD Cert.SconvIn.τ).loc Cert.SconvIn.main_arg0) = m ((c.tc : Thread Cert.SconvIn.nD Cert.SconvIn.τ).loc Cert.SconvIn.main_arg0)
      ∧ r.2.mem ((c.tc : Thread Cert.SconvIn.nD Cert.SconvIn.τ).loc Cert.SconvIn.main_arg1) = m ((c.tc : Thread Cert.SconvIn.nD Cert.SconvIn.τ).loc Cert.SconvIn.main_arg1)
      ∧ r.2.mem ((c.tc : Thread Cert.SconvIn.nD Cert.SconvIn.τ).loc Cert.SconvIn.main_arg2) = m ((c.tc : Thread Cert.SconvIn.nD Cert.SconvIn.τ).loc Cert.SconvIn.main_arg2))
      ∧ r.2.sem = fun _ => 0)

def quiescent_SconvInIdeal [hSconvInIdeal : Cert.SconvInIdeal.Facts] : Prop :=
  ∀ (m : (ℓ : Loc Cert.SconvInIdeal.nD Cert.SconvInIdeal.τ Cert.SconvInIdeal.sig) → Buf (Elt Ideal) ℓ) (g : Dev Cert.SconvInIdeal.nD → PrngReg), Pre_SconvInIdeal m →
    θ_run (Cert.SconvInIdeal.defs (F := Ideal)) (onTc (τ := Cert.SconvInIdeal.τ) (Cert.SconvInIdeal.main (F := Ideal))) ⟨m, fun _ => 0, g⟩ (fun r => (∀ c : Dev Cert.SconvInIdeal.nD,
      r.2.mem ((c.tc : Thread Cert.SconvInIdeal.nD Cert.SconvInIdeal.τ).loc Cert.SconvInIdeal.main_arg0) = m ((c.tc : Thread Cert.SconvInIdeal.nD Cert.SconvInIdeal.τ).loc Cert.SconvInIdeal.main_arg0)
      ∧ r.2.mem ((c.tc : Thread Cert.SconvInIdeal.nD Cert.SconvInIdeal.τ).loc Cert.SconvInIdeal.main_arg1) = m ((c.tc : Thread Cert.SconvInIdeal.nD Cert.SconvInIdeal.τ).loc Cert.SconvInIdeal.main_arg1)
      ∧ r.2.mem ((c.tc : Thread Cert.SconvInIdeal.nD Cert.SconvInIdeal.τ).loc Cert.SconvInIdeal.main_arg2) = m ((c.tc : Thread Cert.SconvInIdeal.nD Cert.SconvInIdeal.τ).loc Cert.SconvInIdeal.main_arg2))
      ∧ r.2.sem = fun _ => 0)

def quiescent_SconvInRefIdeal [hSconvInRefIdeal : Cert.SconvInRefIdeal.Facts] : Prop :=
  ∀ (m : (ℓ : Loc Cert.SconvInRefIdeal.nD Cert.SconvInRefIdeal.τ Cert.SconvInRefIdeal.sig) → Buf (Elt Ideal) ℓ) (g : Dev Cert.SconvInRefIdeal.nD → PrngReg), Pre_SconvInRefIdeal m →
    θ_run (Cert.SconvInRefIdeal.defs (F := Ideal)) (onTc (τ := Cert.SconvInRefIdeal.τ) (Cert.SconvInRefIdeal.main (F := Ideal))) ⟨m, fun _ => 0, g⟩ (fun r => (∀ c : Dev Cert.SconvInRefIdeal.nD,
      r.2.mem ((c.tc : Thread Cert.SconvInRefIdeal.nD Cert.SconvInRefIdeal.τ).loc Cert.SconvInRefIdeal.main_arg0) = m ((c.tc : Thread Cert.SconvInRefIdeal.nD Cert.SconvInRefIdeal.τ).loc Cert.SconvInRefIdeal.main_arg0)
      ∧ r.2.mem ((c.tc : Thread Cert.SconvInRefIdeal.nD Cert.SconvInRefIdeal.τ).loc Cert.SconvInRefIdeal.main_arg1) = m ((c.tc : Thread Cert.SconvInRefIdeal.nD Cert.SconvInRefIdeal.τ).loc Cert.SconvInRefIdeal.main_arg1)
      ∧ r.2.mem ((c.tc : Thread Cert.SconvInRefIdeal.nD Cert.SconvInRefIdeal.τ).loc Cert.SconvInRefIdeal.main_arg2) = m ((c.tc : Thread Cert.SconvInRefIdeal.nD Cert.SconvInRefIdeal.τ).loc Cert.SconvInRefIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def quiescent_HgrnQ [hHgrnQ : Cert.HgrnQ.Facts] : Prop :=
  ∀ (m : (ℓ : Loc Cert.HgrnQ.nD Cert.HgrnQ.τ Cert.HgrnQ.sig) → Buf (Elt Bits) ℓ) (g : Dev Cert.HgrnQ.nD → PrngReg), Pre_HgrnQ m →
    θ_run (Cert.HgrnQ.defs (F := Bits)) (onTc (τ := Cert.HgrnQ.τ) (Cert.HgrnQ.main (F := Bits))) ⟨m, fun _ => 0, g⟩ (fun r => (∀ c : Dev Cert.HgrnQ.nD,
      r.2.mem ((c.tc : Thread Cert.HgrnQ.nD Cert.HgrnQ.τ).loc Cert.HgrnQ.main_arg0) = m ((c.tc : Thread Cert.HgrnQ.nD Cert.HgrnQ.τ).loc Cert.HgrnQ.main_arg0)
      ∧ r.2.mem ((c.tc : Thread Cert.HgrnQ.nD Cert.HgrnQ.τ).loc Cert.HgrnQ.main_arg1) = m ((c.tc : Thread Cert.HgrnQ.nD Cert.HgrnQ.τ).loc Cert.HgrnQ.main_arg1))
      ∧ r.2.sem = fun _ => 0)

def quiescent_HgrnQIdeal [hHgrnQIdeal : Cert.HgrnQIdeal.Facts] : Prop :=
  ∀ (m : (ℓ : Loc Cert.HgrnQIdeal.nD Cert.HgrnQIdeal.τ Cert.HgrnQIdeal.sig) → Buf (Elt Ideal) ℓ) (g : Dev Cert.HgrnQIdeal.nD → PrngReg), Pre_HgrnQIdeal m →
    θ_run (Cert.HgrnQIdeal.defs (F := Ideal)) (onTc (τ := Cert.HgrnQIdeal.τ) (Cert.HgrnQIdeal.main (F := Ideal))) ⟨m, fun _ => 0, g⟩ (fun r => (∀ c : Dev Cert.HgrnQIdeal.nD,
      r.2.mem ((c.tc : Thread Cert.HgrnQIdeal.nD Cert.HgrnQIdeal.τ).loc Cert.HgrnQIdeal.main_arg0) = m ((c.tc : Thread Cert.HgrnQIdeal.nD Cert.HgrnQIdeal.τ).loc Cert.HgrnQIdeal.main_arg0)
      ∧ r.2.mem ((c.tc : Thread Cert.HgrnQIdeal.nD Cert.HgrnQIdeal.τ).loc Cert.HgrnQIdeal.main_arg1) = m ((c.tc : Thread Cert.HgrnQIdeal.nD Cert.HgrnQIdeal.τ).loc Cert.HgrnQIdeal.main_arg1))
      ∧ r.2.sem = fun _ => 0)

def quiescent_HgrnQRefIdeal [hHgrnQRefIdeal : Cert.HgrnQRefIdeal.Facts] : Prop :=
  ∀ (m : (ℓ : Loc Cert.HgrnQRefIdeal.nD Cert.HgrnQRefIdeal.τ Cert.HgrnQRefIdeal.sig) → Buf (Elt Ideal) ℓ) (g : Dev Cert.HgrnQRefIdeal.nD → PrngReg), Pre_HgrnQRefIdeal m →
    θ_run (Cert.HgrnQRefIdeal.defs (F := Ideal)) (onTc (τ := Cert.HgrnQRefIdeal.τ) (Cert.HgrnQRefIdeal.main (F := Ideal))) ⟨m, fun _ => 0, g⟩ (fun r => (∀ c : Dev Cert.HgrnQRefIdeal.nD,
      r.2.mem ((c.tc : Thread Cert.HgrnQRefIdeal.nD Cert.HgrnQRefIdeal.τ).loc Cert.HgrnQRefIdeal.main_arg0) = m ((c.tc : Thread Cert.HgrnQRefIdeal.nD Cert.HgrnQRefIdeal.τ).loc Cert.HgrnQRefIdeal.main_arg0)
      ∧ r.2.mem ((c.tc : Thread Cert.HgrnQRefIdeal.nD Cert.HgrnQRefIdeal.τ).loc Cert.HgrnQRefIdeal.main_arg1) = m ((c.tc : Thread Cert.HgrnQRefIdeal.nD Cert.HgrnQRefIdeal.τ).loc Cert.HgrnQRefIdeal.main_arg1))
      ∧ r.2.sem = fun _ => 0)

def quiescent_HgrnV [hHgrnV : Cert.HgrnV.Facts] : Prop :=
  ∀ (m : (ℓ : Loc Cert.HgrnV.nD Cert.HgrnV.τ Cert.HgrnV.sig) → Buf (Elt Bits) ℓ) (g : Dev Cert.HgrnV.nD → PrngReg), Pre_HgrnV m →
    θ_run (Cert.HgrnV.defs (F := Bits)) (onTc (τ := Cert.HgrnV.τ) (Cert.HgrnV.main (F := Bits))) ⟨m, fun _ => 0, g⟩ (fun r => (∀ c : Dev Cert.HgrnV.nD,
      r.2.mem ((c.tc : Thread Cert.HgrnV.nD Cert.HgrnV.τ).loc Cert.HgrnV.main_arg0) = m ((c.tc : Thread Cert.HgrnV.nD Cert.HgrnV.τ).loc Cert.HgrnV.main_arg0)
      ∧ r.2.mem ((c.tc : Thread Cert.HgrnV.nD Cert.HgrnV.τ).loc Cert.HgrnV.main_arg1) = m ((c.tc : Thread Cert.HgrnV.nD Cert.HgrnV.τ).loc Cert.HgrnV.main_arg1))
      ∧ r.2.sem = fun _ => 0)

def quiescent_HgrnVIdeal [hHgrnVIdeal : Cert.HgrnVIdeal.Facts] : Prop :=
  ∀ (m : (ℓ : Loc Cert.HgrnVIdeal.nD Cert.HgrnVIdeal.τ Cert.HgrnVIdeal.sig) → Buf (Elt Ideal) ℓ) (g : Dev Cert.HgrnVIdeal.nD → PrngReg), Pre_HgrnVIdeal m →
    θ_run (Cert.HgrnVIdeal.defs (F := Ideal)) (onTc (τ := Cert.HgrnVIdeal.τ) (Cert.HgrnVIdeal.main (F := Ideal))) ⟨m, fun _ => 0, g⟩ (fun r => (∀ c : Dev Cert.HgrnVIdeal.nD,
      r.2.mem ((c.tc : Thread Cert.HgrnVIdeal.nD Cert.HgrnVIdeal.τ).loc Cert.HgrnVIdeal.main_arg0) = m ((c.tc : Thread Cert.HgrnVIdeal.nD Cert.HgrnVIdeal.τ).loc Cert.HgrnVIdeal.main_arg0)
      ∧ r.2.mem ((c.tc : Thread Cert.HgrnVIdeal.nD Cert.HgrnVIdeal.τ).loc Cert.HgrnVIdeal.main_arg1) = m ((c.tc : Thread Cert.HgrnVIdeal.nD Cert.HgrnVIdeal.τ).loc Cert.HgrnVIdeal.main_arg1))
      ∧ r.2.sem = fun _ => 0)

def quiescent_HgrnVRefIdeal [hHgrnVRefIdeal : Cert.HgrnVRefIdeal.Facts] : Prop :=
  ∀ (m : (ℓ : Loc Cert.HgrnVRefIdeal.nD Cert.HgrnVRefIdeal.τ Cert.HgrnVRefIdeal.sig) → Buf (Elt Ideal) ℓ) (g : Dev Cert.HgrnVRefIdeal.nD → PrngReg), Pre_HgrnVRefIdeal m →
    θ_run (Cert.HgrnVRefIdeal.defs (F := Ideal)) (onTc (τ := Cert.HgrnVRefIdeal.τ) (Cert.HgrnVRefIdeal.main (F := Ideal))) ⟨m, fun _ => 0, g⟩ (fun r => (∀ c : Dev Cert.HgrnVRefIdeal.nD,
      r.2.mem ((c.tc : Thread Cert.HgrnVRefIdeal.nD Cert.HgrnVRefIdeal.τ).loc Cert.HgrnVRefIdeal.main_arg0) = m ((c.tc : Thread Cert.HgrnVRefIdeal.nD Cert.HgrnVRefIdeal.τ).loc Cert.HgrnVRefIdeal.main_arg0)
      ∧ r.2.mem ((c.tc : Thread Cert.HgrnVRefIdeal.nD Cert.HgrnVRefIdeal.τ).loc Cert.HgrnVRefIdeal.main_arg1) = m ((c.tc : Thread Cert.HgrnVRefIdeal.nD Cert.HgrnVRefIdeal.τ).loc Cert.HgrnVRefIdeal.main_arg1))
      ∧ r.2.sem = fun _ => 0)

def quiescent_HgrnGate [hHgrnGate : Cert.HgrnGate.Facts] : Prop :=
  ∀ (m : (ℓ : Loc Cert.HgrnGate.nD Cert.HgrnGate.τ Cert.HgrnGate.sig) → Buf (Elt Bits) ℓ) (g : Dev Cert.HgrnGate.nD → PrngReg), Pre_HgrnGate m →
    θ_run (Cert.HgrnGate.defs (F := Bits)) (onTc (τ := Cert.HgrnGate.τ) (Cert.HgrnGate.main (F := Bits))) ⟨m, fun _ => 0, g⟩ (fun r => (∀ c : Dev Cert.HgrnGate.nD,
      r.2.mem ((c.tc : Thread Cert.HgrnGate.nD Cert.HgrnGate.τ).loc Cert.HgrnGate.main_arg0) = m ((c.tc : Thread Cert.HgrnGate.nD Cert.HgrnGate.τ).loc Cert.HgrnGate.main_arg0)
      ∧ r.2.mem ((c.tc : Thread Cert.HgrnGate.nD Cert.HgrnGate.τ).loc Cert.HgrnGate.main_arg1) = m ((c.tc : Thread Cert.HgrnGate.nD Cert.HgrnGate.τ).loc Cert.HgrnGate.main_arg1)
      ∧ r.2.mem ((c.tc : Thread Cert.HgrnGate.nD Cert.HgrnGate.τ).loc Cert.HgrnGate.main_arg2) = m ((c.tc : Thread Cert.HgrnGate.nD Cert.HgrnGate.τ).loc Cert.HgrnGate.main_arg2))
      ∧ r.2.sem = fun _ => 0)

def quiescent_HgrnGateIdeal [hHgrnGateIdeal : Cert.HgrnGateIdeal.Facts] : Prop :=
  ∀ (m : (ℓ : Loc Cert.HgrnGateIdeal.nD Cert.HgrnGateIdeal.τ Cert.HgrnGateIdeal.sig) → Buf (Elt Ideal) ℓ) (g : Dev Cert.HgrnGateIdeal.nD → PrngReg), Pre_HgrnGateIdeal m →
    θ_run (Cert.HgrnGateIdeal.defs (F := Ideal)) (onTc (τ := Cert.HgrnGateIdeal.τ) (Cert.HgrnGateIdeal.main (F := Ideal))) ⟨m, fun _ => 0, g⟩ (fun r => (∀ c : Dev Cert.HgrnGateIdeal.nD,
      r.2.mem ((c.tc : Thread Cert.HgrnGateIdeal.nD Cert.HgrnGateIdeal.τ).loc Cert.HgrnGateIdeal.main_arg0) = m ((c.tc : Thread Cert.HgrnGateIdeal.nD Cert.HgrnGateIdeal.τ).loc Cert.HgrnGateIdeal.main_arg0)
      ∧ r.2.mem ((c.tc : Thread Cert.HgrnGateIdeal.nD Cert.HgrnGateIdeal.τ).loc Cert.HgrnGateIdeal.main_arg1) = m ((c.tc : Thread Cert.HgrnGateIdeal.nD Cert.HgrnGateIdeal.τ).loc Cert.HgrnGateIdeal.main_arg1)
      ∧ r.2.mem ((c.tc : Thread Cert.HgrnGateIdeal.nD Cert.HgrnGateIdeal.τ).loc Cert.HgrnGateIdeal.main_arg2) = m ((c.tc : Thread Cert.HgrnGateIdeal.nD Cert.HgrnGateIdeal.τ).loc Cert.HgrnGateIdeal.main_arg2))
      ∧ r.2.sem = fun _ => 0)

def quiescent_HgrnGateRefIdeal [hHgrnGateRefIdeal : Cert.HgrnGateRefIdeal.Facts] : Prop :=
  ∀ (m : (ℓ : Loc Cert.HgrnGateRefIdeal.nD Cert.HgrnGateRefIdeal.τ Cert.HgrnGateRefIdeal.sig) → Buf (Elt Ideal) ℓ) (g : Dev Cert.HgrnGateRefIdeal.nD → PrngReg), Pre_HgrnGateRefIdeal m →
    θ_run (Cert.HgrnGateRefIdeal.defs (F := Ideal)) (onTc (τ := Cert.HgrnGateRefIdeal.τ) (Cert.HgrnGateRefIdeal.main (F := Ideal))) ⟨m, fun _ => 0, g⟩ (fun r => (∀ c : Dev Cert.HgrnGateRefIdeal.nD,
      r.2.mem ((c.tc : Thread Cert.HgrnGateRefIdeal.nD Cert.HgrnGateRefIdeal.τ).loc Cert.HgrnGateRefIdeal.main_arg0) = m ((c.tc : Thread Cert.HgrnGateRefIdeal.nD Cert.HgrnGateRefIdeal.τ).loc Cert.HgrnGateRefIdeal.main_arg0)
      ∧ r.2.mem ((c.tc : Thread Cert.HgrnGateRefIdeal.nD Cert.HgrnGateRefIdeal.τ).loc Cert.HgrnGateRefIdeal.main_arg1) = m ((c.tc : Thread Cert.HgrnGateRefIdeal.nD Cert.HgrnGateRefIdeal.τ).loc Cert.HgrnGateRefIdeal.main_arg1)
      ∧ r.2.mem ((c.tc : Thread Cert.HgrnGateRefIdeal.nD Cert.HgrnGateRefIdeal.τ).loc Cert.HgrnGateRefIdeal.main_arg2) = m ((c.tc : Thread Cert.HgrnGateRefIdeal.nD Cert.HgrnGateRefIdeal.τ).loc Cert.HgrnGateRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_FfnOutNext [hFfnOutNext : Cert.FfnOutNext.Facts] : Prop :=
  ∀ (m : (ℓ : Loc Cert.FfnOutNext.nD Cert.FfnOutNext.τ Cert.FfnOutNext.sig) → Buf (Elt Bits) ℓ) (g : Dev Cert.FfnOutNext.nD → PrngReg), Pre_FfnOutNext m →
    θ_run (Cert.FfnOutNext.defs (F := Bits)) (onTc (τ := Cert.FfnOutNext.τ) (Cert.FfnOutNext.main (F := Bits))) ⟨m, fun _ => 0, g⟩ (fun r => (∀ c : Dev Cert.FfnOutNext.nD,
      r.2.mem ((c.tc : Thread Cert.FfnOutNext.nD Cert.FfnOutNext.τ).loc Cert.FfnOutNext.main_arg0) = m ((c.tc : Thread Cert.FfnOutNext.nD Cert.FfnOutNext.τ).loc Cert.FfnOutNext.main_arg0)
      ∧ r.2.mem ((c.tc : Thread Cert.FfnOutNext.nD Cert.FfnOutNext.τ).loc Cert.FfnOutNext.main_arg1) = m ((c.tc : Thread Cert.FfnOutNext.nD Cert.FfnOutNext.τ).loc Cert.FfnOutNext.main_arg1)
      ∧ r.2.mem ((c.tc : Thread Cert.FfnOutNext.nD Cert.FfnOutNext.τ).loc Cert.FfnOutNext.main_arg2) = m ((c.tc : Thread Cert.FfnOutNext.nD Cert.FfnOutNext.τ).loc Cert.FfnOutNext.main_arg2)
      ∧ r.2.mem ((c.tc : Thread Cert.FfnOutNext.nD Cert.FfnOutNext.τ).loc Cert.FfnOutNext.main_arg3) = m ((c.tc : Thread Cert.FfnOutNext.nD Cert.FfnOutNext.τ).loc Cert.FfnOutNext.main_arg3)
      ∧ r.2.mem ((c.tc : Thread Cert.FfnOutNext.nD Cert.FfnOutNext.τ).loc Cert.FfnOutNext.main_arg4) = m ((c.tc : Thread Cert.FfnOutNext.nD Cert.FfnOutNext.τ).loc Cert.FfnOutNext.main_arg4))
      ∧ r.2.sem = fun _ => 0)

def quiescent_FfnOutNextIdeal [hFfnOutNextIdeal : Cert.FfnOutNextIdeal.Facts] : Prop :=
  ∀ (m : (ℓ : Loc Cert.FfnOutNextIdeal.nD Cert.FfnOutNextIdeal.τ Cert.FfnOutNextIdeal.sig) → Buf (Elt Ideal) ℓ) (g : Dev Cert.FfnOutNextIdeal.nD → PrngReg), Pre_FfnOutNextIdeal m →
    θ_run (Cert.FfnOutNextIdeal.defs (F := Ideal)) (onTc (τ := Cert.FfnOutNextIdeal.τ) (Cert.FfnOutNextIdeal.main (F := Ideal))) ⟨m, fun _ => 0, g⟩ (fun r => (∀ c : Dev Cert.FfnOutNextIdeal.nD,
      r.2.mem ((c.tc : Thread Cert.FfnOutNextIdeal.nD Cert.FfnOutNextIdeal.τ).loc Cert.FfnOutNextIdeal.main_arg0) = m ((c.tc : Thread Cert.FfnOutNextIdeal.nD Cert.FfnOutNextIdeal.τ).loc Cert.FfnOutNextIdeal.main_arg0)
      ∧ r.2.mem ((c.tc : Thread Cert.FfnOutNextIdeal.nD Cert.FfnOutNextIdeal.τ).loc Cert.FfnOutNextIdeal.main_arg1) = m ((c.tc : Thread Cert.FfnOutNextIdeal.nD Cert.FfnOutNextIdeal.τ).loc Cert.FfnOutNextIdeal.main_arg1)
      ∧ r.2.mem ((c.tc : Thread Cert.FfnOutNextIdeal.nD Cert.FfnOutNextIdeal.τ).loc Cert.FfnOutNextIdeal.main_arg2) = m ((c.tc : Thread Cert.FfnOutNextIdeal.nD Cert.FfnOutNextIdeal.τ).loc Cert.FfnOutNextIdeal.main_arg2)
      ∧ r.2.mem ((c.tc : Thread Cert.FfnOutNextIdeal.nD Cert.FfnOutNextIdeal.τ).loc Cert.FfnOutNextIdeal.main_arg3) = m ((c.tc : Thread Cert.FfnOutNextIdeal.nD Cert.FfnOutNextIdeal.τ).loc Cert.FfnOutNextIdeal.main_arg3)
      ∧ r.2.mem ((c.tc : Thread Cert.FfnOutNextIdeal.nD Cert.FfnOutNextIdeal.τ).loc Cert.FfnOutNextIdeal.main_arg4) = m ((c.tc : Thread Cert.FfnOutNextIdeal.nD Cert.FfnOutNextIdeal.τ).loc Cert.FfnOutNextIdeal.main_arg4))
      ∧ r.2.sem = fun _ => 0)

def quiescent_FfnOutNextRefIdeal [hFfnOutNextRefIdeal : Cert.FfnOutNextRefIdeal.Facts] : Prop :=
  ∀ (m : (ℓ : Loc Cert.FfnOutNextRefIdeal.nD Cert.FfnOutNextRefIdeal.τ Cert.FfnOutNextRefIdeal.sig) → Buf (Elt Ideal) ℓ) (g : Dev Cert.FfnOutNextRefIdeal.nD → PrngReg), Pre_FfnOutNextRefIdeal m →
    θ_run (Cert.FfnOutNextRefIdeal.defs (F := Ideal)) (onTc (τ := Cert.FfnOutNextRefIdeal.τ) (Cert.FfnOutNextRefIdeal.main (F := Ideal))) ⟨m, fun _ => 0, g⟩ (fun r => (∀ c : Dev Cert.FfnOutNextRefIdeal.nD,
      r.2.mem ((c.tc : Thread Cert.FfnOutNextRefIdeal.nD Cert.FfnOutNextRefIdeal.τ).loc Cert.FfnOutNextRefIdeal.main_arg0) = m ((c.tc : Thread Cert.FfnOutNextRefIdeal.nD Cert.FfnOutNextRefIdeal.τ).loc Cert.FfnOutNextRefIdeal.main_arg0)
      ∧ r.2.mem ((c.tc : Thread Cert.FfnOutNextRefIdeal.nD Cert.FfnOutNextRefIdeal.τ).loc Cert.FfnOutNextRefIdeal.main_arg1) = m ((c.tc : Thread Cert.FfnOutNextRefIdeal.nD Cert.FfnOutNextRefIdeal.τ).loc Cert.FfnOutNextRefIdeal.main_arg1)
      ∧ r.2.mem ((c.tc : Thread Cert.FfnOutNextRefIdeal.nD Cert.FfnOutNextRefIdeal.τ).loc Cert.FfnOutNextRefIdeal.main_arg2) = m ((c.tc : Thread Cert.FfnOutNextRefIdeal.nD Cert.FfnOutNextRefIdeal.τ).loc Cert.FfnOutNextRefIdeal.main_arg2)
      ∧ r.2.mem ((c.tc : Thread Cert.FfnOutNextRefIdeal.nD Cert.FfnOutNextRefIdeal.τ).loc Cert.FfnOutNextRefIdeal.main_arg3) = m ((c.tc : Thread Cert.FfnOutNextRefIdeal.nD Cert.FfnOutNextRefIdeal.τ).loc Cert.FfnOutNextRefIdeal.main_arg3)
      ∧ r.2.mem ((c.tc : Thread Cert.FfnOutNextRefIdeal.nD Cert.FfnOutNextRefIdeal.τ).loc Cert.FfnOutNextRefIdeal.main_arg4) = m ((c.tc : Thread Cert.FfnOutNextRefIdeal.nD Cert.FfnOutNextRefIdeal.τ).loc Cert.FfnOutNextRefIdeal.main_arg4))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4)
      ∧ r.2.mem ((c.tc : Thread Cert.Hgrn.nD Cert.Hgrn.τ).loc Cert.Hgrn.main_arg5) = m ((c.tc : Thread Cert.Hgrn.nD Cert.Hgrn.τ).loc Cert.Hgrn.main_arg5))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ r.2.sem = fun _ => 0)

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v33) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def preserves_SconvIn_SconvInIdeal : Prop :=
  True

def algebraic_SconvInIdeal_SconvInRefIdeal [hSconvInIdeal : Cert.SconvInIdeal.Facts] [hSconvInRefIdeal : Cert.SconvInRefIdeal.Facts] : Prop :=
  ∀ (m : (ℓ : Loc Cert.SconvInIdeal.nD Cert.SconvInIdeal.τ Cert.SconvInIdeal.sig) → Buf (Elt Ideal) ℓ) (g : Dev Cert.SconvInIdeal.nD → PrngReg)
    (m' : (ℓ : Loc Cert.SconvInRefIdeal.nD Cert.SconvInRefIdeal.τ Cert.SconvInRefIdeal.sig) → Buf (Elt Ideal) ℓ) (g' : Dev Cert.SconvInRefIdeal.nD → PrngReg), Pre_SconvInIdeal m →
    (∀ c : Dev Cert.SconvInIdeal.nD,
      m' ((c.tc : Thread Cert.SconvInRefIdeal.nD Cert.SconvInRefIdeal.τ).loc Cert.SconvInRefIdeal.main_arg0) = m ((c.tc : Thread Cert.SconvInIdeal.nD Cert.SconvInIdeal.τ).loc Cert.SconvInIdeal.main_arg0)
      ∧ m' ((c.tc : Thread Cert.SconvInRefIdeal.nD Cert.SconvInRefIdeal.τ).loc Cert.SconvInRefIdeal.main_arg1) = m ((c.tc : Thread Cert.SconvInIdeal.nD Cert.SconvInIdeal.τ).loc Cert.SconvInIdeal.main_arg1)
      ∧ m' ((c.tc : Thread Cert.SconvInRefIdeal.nD Cert.SconvInRefIdeal.τ).loc Cert.SconvInRefIdeal.main_arg2) = m ((c.tc : Thread Cert.SconvInIdeal.nD Cert.SconvInIdeal.τ).loc Cert.SconvInIdeal.main_arg2)) →
    ∃ (v0 : (c : Dev Cert.SconvInIdeal.nD) → Buf (Elt Ideal) ((c.tc : Thread Cert.SconvInIdeal.nD Cert.SconvInIdeal.τ).loc Cert.SconvInIdeal.main_v0)),
      θ_run (Cert.SconvInIdeal.defs (F := Ideal)) (onTc (τ := Cert.SconvInIdeal.τ) (Cert.SconvInIdeal.main (F := Ideal))) ⟨m, fun _ => 0, g⟩ (fun r => ∀ c : Dev Cert.SconvInIdeal.nD,
          r.2.mem ((c.tc : Thread Cert.SconvInIdeal.nD Cert.SconvInIdeal.τ).loc Cert.SconvInIdeal.main_v0) = v0 c
          ∧ r.2.mem ((c.tc : Thread Cert.SconvInIdeal.nD Cert.SconvInIdeal.τ).loc Cert.SconvInIdeal.main_arg0) = m ((c.tc : Thread Cert.SconvInIdeal.nD Cert.SconvInIdeal.τ).loc Cert.SconvInIdeal.main_arg0)
          ∧ r.2.mem ((c.tc : Thread Cert.SconvInIdeal.nD Cert.SconvInIdeal.τ).loc Cert.SconvInIdeal.main_arg1) = m ((c.tc : Thread Cert.SconvInIdeal.nD Cert.SconvInIdeal.τ).loc Cert.SconvInIdeal.main_arg1)
          ∧ r.2.mem ((c.tc : Thread Cert.SconvInIdeal.nD Cert.SconvInIdeal.τ).loc Cert.SconvInIdeal.main_arg2) = m ((c.tc : Thread Cert.SconvInIdeal.nD Cert.SconvInIdeal.τ).loc Cert.SconvInIdeal.main_arg2))
      ∧ θ_run (Cert.SconvInRefIdeal.defs (F := Ideal)) (onTc (τ := Cert.SconvInRefIdeal.τ) (Cert.SconvInRefIdeal.main (F := Ideal))) ⟨m', fun _ => 0, g'⟩ (fun r => ∀ c : Dev Cert.SconvInRefIdeal.nD,
          r.2.mem ((c.tc : Thread Cert.SconvInRefIdeal.nD Cert.SconvInRefIdeal.τ).loc Cert.SconvInRefIdeal.main_v34) = v0 c
          ∧ r.2.mem ((c.tc : Thread Cert.SconvInRefIdeal.nD Cert.SconvInRefIdeal.τ).loc Cert.SconvInRefIdeal.main_arg0) = m' ((c.tc : Thread Cert.SconvInRefIdeal.nD Cert.SconvInRefIdeal.τ).loc Cert.SconvInRefIdeal.main_arg0)
          ∧ r.2.mem ((c.tc : Thread Cert.SconvInRefIdeal.nD Cert.SconvInRefIdeal.τ).loc Cert.SconvInRefIdeal.main_arg1) = m' ((c.tc : Thread Cert.SconvInRefIdeal.nD Cert.SconvInRefIdeal.τ).loc Cert.SconvInRefIdeal.main_arg1)
          ∧ r.2.mem ((c.tc : Thread Cert.SconvInRefIdeal.nD Cert.SconvInRefIdeal.τ).loc Cert.SconvInRefIdeal.main_arg2) = m' ((c.tc : Thread Cert.SconvInRefIdeal.nD Cert.SconvInRefIdeal.τ).loc Cert.SconvInRefIdeal.main_arg2))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v3)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v3) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v17) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v3_0)) (v1 : (c : Dev Cert.MixOutIdeal.nD) → Buf (Elt Ideal) ((c.tc : Thread Cert.MixOutIdeal.nD Cert.MixOutIdeal.τ).loc Cert.MixOutIdeal.main_v3_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3_0) = v0 c
          ∧ r.2.mem ((c.tc : Thread Cert.MixOutIdeal.nD Cert.MixOutIdeal.τ).loc Cert.MixOutIdeal.main_v3_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v17) = v0 c
          ∧ r.2.mem ((c.tc : Thread Cert.MixOutRefIdeal.nD Cert.MixOutRefIdeal.τ).loc Cert.MixOutRefIdeal.main_v31) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def preserves_HgrnQ_HgrnQIdeal : Prop :=
  True

def algebraic_HgrnQIdeal_HgrnQRefIdeal [hHgrnQIdeal : Cert.HgrnQIdeal.Facts] [hHgrnQRefIdeal : Cert.HgrnQRefIdeal.Facts] : Prop :=
  ∀ (m : (ℓ : Loc Cert.HgrnQIdeal.nD Cert.HgrnQIdeal.τ Cert.HgrnQIdeal.sig) → Buf (Elt Ideal) ℓ) (g : Dev Cert.HgrnQIdeal.nD → PrngReg)
    (m' : (ℓ : Loc Cert.HgrnQRefIdeal.nD Cert.HgrnQRefIdeal.τ Cert.HgrnQRefIdeal.sig) → Buf (Elt Ideal) ℓ) (g' : Dev Cert.HgrnQRefIdeal.nD → PrngReg), Pre_HgrnQIdeal m →
    (∀ c : Dev Cert.HgrnQIdeal.nD,
      m' ((c.tc : Thread Cert.HgrnQRefIdeal.nD Cert.HgrnQRefIdeal.τ).loc Cert.HgrnQRefIdeal.main_arg0) = m ((c.tc : Thread Cert.HgrnQIdeal.nD Cert.HgrnQIdeal.τ).loc Cert.HgrnQIdeal.main_arg0)
      ∧ m' ((c.tc : Thread Cert.HgrnQRefIdeal.nD Cert.HgrnQRefIdeal.τ).loc Cert.HgrnQRefIdeal.main_arg1) = m ((c.tc : Thread Cert.HgrnQIdeal.nD Cert.HgrnQIdeal.τ).loc Cert.HgrnQIdeal.main_arg1)) →
    ∃ (v0 : (c : Dev Cert.HgrnQIdeal.nD) → Buf (Elt Ideal) ((c.tc : Thread Cert.HgrnQIdeal.nD Cert.HgrnQIdeal.τ).loc Cert.HgrnQIdeal.main_v0)),
      θ_run (Cert.HgrnQIdeal.defs (F := Ideal)) (onTc (τ := Cert.HgrnQIdeal.τ) (Cert.HgrnQIdeal.main (F := Ideal))) ⟨m, fun _ => 0, g⟩ (fun r => ∀ c : Dev Cert.HgrnQIdeal.nD,
          r.2.mem ((c.tc : Thread Cert.HgrnQIdeal.nD Cert.HgrnQIdeal.τ).loc Cert.HgrnQIdeal.main_v0) = v0 c
          ∧ r.2.mem ((c.tc : Thread Cert.HgrnQIdeal.nD Cert.HgrnQIdeal.τ).loc Cert.HgrnQIdeal.main_arg0) = m ((c.tc : Thread Cert.HgrnQIdeal.nD Cert.HgrnQIdeal.τ).loc Cert.HgrnQIdeal.main_arg0)
          ∧ r.2.mem ((c.tc : Thread Cert.HgrnQIdeal.nD Cert.HgrnQIdeal.τ).loc Cert.HgrnQIdeal.main_arg1) = m ((c.tc : Thread Cert.HgrnQIdeal.nD Cert.HgrnQIdeal.τ).loc Cert.HgrnQIdeal.main_arg1))
      ∧ θ_run (Cert.HgrnQRefIdeal.defs (F := Ideal)) (onTc (τ := Cert.HgrnQRefIdeal.τ) (Cert.HgrnQRefIdeal.main (F := Ideal))) ⟨m', fun _ => 0, g'⟩ (fun r => ∀ c : Dev Cert.HgrnQRefIdeal.nD,
          r.2.mem ((c.tc : Thread Cert.HgrnQRefIdeal.nD Cert.HgrnQRefIdeal.τ).loc Cert.HgrnQRefIdeal.main_v6) = v0 c
          ∧ r.2.mem ((c.tc : Thread Cert.HgrnQRefIdeal.nD Cert.HgrnQRefIdeal.τ).loc Cert.HgrnQRefIdeal.main_arg0) = m' ((c.tc : Thread Cert.HgrnQRefIdeal.nD Cert.HgrnQRefIdeal.τ).loc Cert.HgrnQRefIdeal.main_arg0)
          ∧ r.2.mem ((c.tc : Thread Cert.HgrnQRefIdeal.nD Cert.HgrnQRefIdeal.τ).loc Cert.HgrnQRefIdeal.main_arg1) = m' ((c.tc : Thread Cert.HgrnQRefIdeal.nD Cert.HgrnQRefIdeal.τ).loc Cert.HgrnQRefIdeal.main_arg1))

def preserves_HgrnV_HgrnVIdeal : Prop :=
  True

def algebraic_HgrnVIdeal_HgrnVRefIdeal [hHgrnVIdeal : Cert.HgrnVIdeal.Facts] [hHgrnVRefIdeal : Cert.HgrnVRefIdeal.Facts] : Prop :=
  ∀ (m : (ℓ : Loc Cert.HgrnVIdeal.nD Cert.HgrnVIdeal.τ Cert.HgrnVIdeal.sig) → Buf (Elt Ideal) ℓ) (g : Dev Cert.HgrnVIdeal.nD → PrngReg)
    (m' : (ℓ : Loc Cert.HgrnVRefIdeal.nD Cert.HgrnVRefIdeal.τ Cert.HgrnVRefIdeal.sig) → Buf (Elt Ideal) ℓ) (g' : Dev Cert.HgrnVRefIdeal.nD → PrngReg), Pre_HgrnVIdeal m →
    (∀ c : Dev Cert.HgrnVIdeal.nD,
      m' ((c.tc : Thread Cert.HgrnVRefIdeal.nD Cert.HgrnVRefIdeal.τ).loc Cert.HgrnVRefIdeal.main_arg0) = m ((c.tc : Thread Cert.HgrnVIdeal.nD Cert.HgrnVIdeal.τ).loc Cert.HgrnVIdeal.main_arg0)
      ∧ m' ((c.tc : Thread Cert.HgrnVRefIdeal.nD Cert.HgrnVRefIdeal.τ).loc Cert.HgrnVRefIdeal.main_arg1) = m ((c.tc : Thread Cert.HgrnVIdeal.nD Cert.HgrnVIdeal.τ).loc Cert.HgrnVIdeal.main_arg1)) →
    ∃ (v0 : (c : Dev Cert.HgrnVIdeal.nD) → Buf (Elt Ideal) ((c.tc : Thread Cert.HgrnVIdeal.nD Cert.HgrnVIdeal.τ).loc Cert.HgrnVIdeal.main_v0)),
      θ_run (Cert.HgrnVIdeal.defs (F := Ideal)) (onTc (τ := Cert.HgrnVIdeal.τ) (Cert.HgrnVIdeal.main (F := Ideal))) ⟨m, fun _ => 0, g⟩ (fun r => ∀ c : Dev Cert.HgrnVIdeal.nD,
          r.2.mem ((c.tc : Thread Cert.HgrnVIdeal.nD Cert.HgrnVIdeal.τ).loc Cert.HgrnVIdeal.main_v0) = v0 c
          ∧ r.2.mem ((c.tc : Thread Cert.HgrnVIdeal.nD Cert.HgrnVIdeal.τ).loc Cert.HgrnVIdeal.main_arg0) = m ((c.tc : Thread Cert.HgrnVIdeal.nD Cert.HgrnVIdeal.τ).loc Cert.HgrnVIdeal.main_arg0)
          ∧ r.2.mem ((c.tc : Thread Cert.HgrnVIdeal.nD Cert.HgrnVIdeal.τ).loc Cert.HgrnVIdeal.main_arg1) = m ((c.tc : Thread Cert.HgrnVIdeal.nD Cert.HgrnVIdeal.τ).loc Cert.HgrnVIdeal.main_arg1))
      ∧ θ_run (Cert.HgrnVRefIdeal.defs (F := Ideal)) (onTc (τ := Cert.HgrnVRefIdeal.τ) (Cert.HgrnVRefIdeal.main (F := Ideal))) ⟨m', fun _ => 0, g'⟩ (fun r => ∀ c : Dev Cert.HgrnVRefIdeal.nD,
          r.2.mem ((c.tc : Thread Cert.HgrnVRefIdeal.nD Cert.HgrnVRefIdeal.τ).loc Cert.HgrnVRefIdeal.main_v5) = v0 c
          ∧ r.2.mem ((c.tc : Thread Cert.HgrnVRefIdeal.nD Cert.HgrnVRefIdeal.τ).loc Cert.HgrnVRefIdeal.main_arg0) = m' ((c.tc : Thread Cert.HgrnVRefIdeal.nD Cert.HgrnVRefIdeal.τ).loc Cert.HgrnVRefIdeal.main_arg0)
          ∧ r.2.mem ((c.tc : Thread Cert.HgrnVRefIdeal.nD Cert.HgrnVRefIdeal.τ).loc Cert.HgrnVRefIdeal.main_arg1) = m' ((c.tc : Thread Cert.HgrnVRefIdeal.nD Cert.HgrnVRefIdeal.τ).loc Cert.HgrnVRefIdeal.main_arg1))

def preserves_HgrnGate_HgrnGateIdeal : Prop :=
  IdealRules.named_const.Statement Cert.HgrnGateIdeal.κ "INV_LN2" .f32 0x3FB8AA3B#32 (((Real.log 2)⁻¹ : ℝ) : EReal)

def algebraic_HgrnGateIdeal_HgrnGateRefIdeal [hHgrnGateIdeal : Cert.HgrnGateIdeal.Facts] [hHgrnGateRefIdeal : Cert.HgrnGateRefIdeal.Facts] : Prop :=
  ∀ (m : (ℓ : Loc Cert.HgrnGateIdeal.nD Cert.HgrnGateIdeal.τ Cert.HgrnGateIdeal.sig) → Buf (Elt Ideal) ℓ) (g : Dev Cert.HgrnGateIdeal.nD → PrngReg)
    (m' : (ℓ : Loc Cert.HgrnGateRefIdeal.nD Cert.HgrnGateRefIdeal.τ Cert.HgrnGateRefIdeal.sig) → Buf (Elt Ideal) ℓ) (g' : Dev Cert.HgrnGateRefIdeal.nD → PrngReg), Pre_HgrnGateIdeal m →
    (∀ c : Dev Cert.HgrnGateIdeal.nD,
      m' ((c.tc : Thread Cert.HgrnGateRefIdeal.nD Cert.HgrnGateRefIdeal.τ).loc Cert.HgrnGateRefIdeal.main_arg0) = m ((c.tc : Thread Cert.HgrnGateIdeal.nD Cert.HgrnGateIdeal.τ).loc Cert.HgrnGateIdeal.main_arg0)
      ∧ m' ((c.tc : Thread Cert.HgrnGateRefIdeal.nD Cert.HgrnGateRefIdeal.τ).loc Cert.HgrnGateRefIdeal.main_arg1) = m ((c.tc : Thread Cert.HgrnGateIdeal.nD Cert.HgrnGateIdeal.τ).loc Cert.HgrnGateIdeal.main_arg1)
      ∧ m' ((c.tc : Thread Cert.HgrnGateRefIdeal.nD Cert.HgrnGateRefIdeal.τ).loc Cert.HgrnGateRefIdeal.main_arg2) = m ((c.tc : Thread Cert.HgrnGateIdeal.nD Cert.HgrnGateIdeal.τ).loc Cert.HgrnGateIdeal.main_arg2)) →
    ∃ (v0 : (c : Dev Cert.HgrnGateIdeal.nD) → Buf (Elt Ideal) ((c.tc : Thread Cert.HgrnGateIdeal.nD Cert.HgrnGateIdeal.τ).loc Cert.HgrnGateIdeal.main_v0)),
      θ_run (Cert.HgrnGateIdeal.defs (F := Ideal)) (onTc (τ := Cert.HgrnGateIdeal.τ) (Cert.HgrnGateIdeal.main (F := Ideal))) ⟨m, fun _ => 0, g⟩ (fun r => ∀ c : Dev Cert.HgrnGateIdeal.nD,
          r.2.mem ((c.tc : Thread Cert.HgrnGateIdeal.nD Cert.HgrnGateIdeal.τ).loc Cert.HgrnGateIdeal.main_v0) = v0 c
          ∧ r.2.mem ((c.tc : Thread Cert.HgrnGateIdeal.nD Cert.HgrnGateIdeal.τ).loc Cert.HgrnGateIdeal.main_arg0) = m ((c.tc : Thread Cert.HgrnGateIdeal.nD Cert.HgrnGateIdeal.τ).loc Cert.HgrnGateIdeal.main_arg0)
          ∧ r.2.mem ((c.tc : Thread Cert.HgrnGateIdeal.nD Cert.HgrnGateIdeal.τ).loc Cert.HgrnGateIdeal.main_arg1) = m ((c.tc : Thread Cert.HgrnGateIdeal.nD Cert.HgrnGateIdeal.τ).loc Cert.HgrnGateIdeal.main_arg1)
          ∧ r.2.mem ((c.tc : Thread Cert.HgrnGateIdeal.nD Cert.HgrnGateIdeal.τ).loc Cert.HgrnGateIdeal.main_arg2) = m ((c.tc : Thread Cert.HgrnGateIdeal.nD Cert.HgrnGateIdeal.τ).loc Cert.HgrnGateIdeal.main_arg2))
      ∧ θ_run (Cert.HgrnGateRefIdeal.defs (F := Ideal)) (onTc (τ := Cert.HgrnGateRefIdeal.τ) (Cert.HgrnGateRefIdeal.main (F := Ideal))) ⟨m', fun _ => 0, g'⟩ (fun r => ∀ c : Dev Cert.HgrnGateRefIdeal.nD,
          r.2.mem ((c.tc : Thread Cert.HgrnGateRefIdeal.nD Cert.HgrnGateRefIdeal.τ).loc Cert.HgrnGateRefIdeal.main_v41) = v0 c
          ∧ r.2.mem ((c.tc : Thread Cert.HgrnGateRefIdeal.nD Cert.HgrnGateRefIdeal.τ).loc Cert.HgrnGateRefIdeal.main_arg0) = m' ((c.tc : Thread Cert.HgrnGateRefIdeal.nD Cert.HgrnGateRefIdeal.τ).loc Cert.HgrnGateRefIdeal.main_arg0)
          ∧ r.2.mem ((c.tc : Thread Cert.HgrnGateRefIdeal.nD Cert.HgrnGateRefIdeal.τ).loc Cert.HgrnGateRefIdeal.main_arg1) = m' ((c.tc : Thread Cert.HgrnGateRefIdeal.nD Cert.HgrnGateRefIdeal.τ).loc Cert.HgrnGateRefIdeal.main_arg1)
          ∧ r.2.mem ((c.tc : Thread Cert.HgrnGateRefIdeal.nD Cert.HgrnGateRefIdeal.τ).loc Cert.HgrnGateRefIdeal.main_arg2) = m' ((c.tc : Thread Cert.HgrnGateRefIdeal.nD Cert.HgrnGateRefIdeal.τ).loc Cert.HgrnGateRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_FfnOutNext_FfnOutNextIdeal : Prop :=
  True

def algebraic_FfnOutNextIdeal_FfnOutNextRefIdeal [hFfnOutNextIdeal : Cert.FfnOutNextIdeal.Facts] [hFfnOutNextRefIdeal : Cert.FfnOutNextRefIdeal.Facts] : Prop :=
  ∀ (m : (ℓ : Loc Cert.FfnOutNextIdeal.nD Cert.FfnOutNextIdeal.τ Cert.FfnOutNextIdeal.sig) → Buf (Elt Ideal) ℓ) (g : Dev Cert.FfnOutNextIdeal.nD → PrngReg)
    (m' : (ℓ : Loc Cert.FfnOutNextRefIdeal.nD Cert.FfnOutNextRefIdeal.τ Cert.FfnOutNextRefIdeal.sig) → Buf (Elt Ideal) ℓ) (g' : Dev Cert.FfnOutNextRefIdeal.nD → PrngReg), Pre_FfnOutNextIdeal m →
    (∀ c : Dev Cert.FfnOutNextIdeal.nD,
      m' ((c.tc : Thread Cert.FfnOutNextRefIdeal.nD Cert.FfnOutNextRefIdeal.τ).loc Cert.FfnOutNextRefIdeal.main_arg0) = m ((c.tc : Thread Cert.FfnOutNextIdeal.nD Cert.FfnOutNextIdeal.τ).loc Cert.FfnOutNextIdeal.main_arg0)
      ∧ m' ((c.tc : Thread Cert.FfnOutNextRefIdeal.nD Cert.FfnOutNextRefIdeal.τ).loc Cert.FfnOutNextRefIdeal.main_arg1) = m ((c.tc : Thread Cert.FfnOutNextIdeal.nD Cert.FfnOutNextIdeal.τ).loc Cert.FfnOutNextIdeal.main_arg1)
      ∧ m' ((c.tc : Thread Cert.FfnOutNextRefIdeal.nD Cert.FfnOutNextRefIdeal.τ).loc Cert.FfnOutNextRefIdeal.main_arg2) = m ((c.tc : Thread Cert.FfnOutNextIdeal.nD Cert.FfnOutNextIdeal.τ).loc Cert.FfnOutNextIdeal.main_arg2)
      ∧ m' ((c.tc : Thread Cert.FfnOutNextRefIdeal.nD Cert.FfnOutNextRefIdeal.τ).loc Cert.FfnOutNextRefIdeal.main_arg3) = m ((c.tc : Thread Cert.FfnOutNextIdeal.nD Cert.FfnOutNextIdeal.τ).loc Cert.FfnOutNextIdeal.main_arg3)
      ∧ m' ((c.tc : Thread Cert.FfnOutNextRefIdeal.nD Cert.FfnOutNextRefIdeal.τ).loc Cert.FfnOutNextRefIdeal.main_arg4) = m ((c.tc : Thread Cert.FfnOutNextIdeal.nD Cert.FfnOutNextIdeal.τ).loc Cert.FfnOutNextIdeal.main_arg4)) →
    ∃ (v0 : (c : Dev Cert.FfnOutNextIdeal.nD) → Buf (Elt Ideal) ((c.tc : Thread Cert.FfnOutNextIdeal.nD Cert.FfnOutNextIdeal.τ).loc Cert.FfnOutNextIdeal.main_v3_0)) (v1 : (c : Dev Cert.FfnOutNextIdeal.nD) → Buf (Elt Ideal) ((c.tc : Thread Cert.FfnOutNextIdeal.nD Cert.FfnOutNextIdeal.τ).loc Cert.FfnOutNextIdeal.main_v3_1)),
      θ_run (Cert.FfnOutNextIdeal.defs (F := Ideal)) (onTc (τ := Cert.FfnOutNextIdeal.τ) (Cert.FfnOutNextIdeal.main (F := Ideal))) ⟨m, fun _ => 0, g⟩ (fun r => ∀ c : Dev Cert.FfnOutNextIdeal.nD,
          r.2.mem ((c.tc : Thread Cert.FfnOutNextIdeal.nD Cert.FfnOutNextIdeal.τ).loc Cert.FfnOutNextIdeal.main_v3_0) = v0 c
          ∧ r.2.mem ((c.tc : Thread Cert.FfnOutNextIdeal.nD Cert.FfnOutNextIdeal.τ).loc Cert.FfnOutNextIdeal.main_v3_1) = v1 c
          ∧ r.2.mem ((c.tc : Thread Cert.FfnOutNextIdeal.nD Cert.FfnOutNextIdeal.τ).loc Cert.FfnOutNextIdeal.main_arg0) = m ((c.tc : Thread Cert.FfnOutNextIdeal.nD Cert.FfnOutNextIdeal.τ).loc Cert.FfnOutNextIdeal.main_arg0)
          ∧ r.2.mem ((c.tc : Thread Cert.FfnOutNextIdeal.nD Cert.FfnOutNextIdeal.τ).loc Cert.FfnOutNextIdeal.main_arg1) = m ((c.tc : Thread Cert.FfnOutNextIdeal.nD Cert.FfnOutNextIdeal.τ).loc Cert.FfnOutNextIdeal.main_arg1)
          ∧ r.2.mem ((c.tc : Thread Cert.FfnOutNextIdeal.nD Cert.FfnOutNextIdeal.τ).loc Cert.FfnOutNextIdeal.main_arg2) = m ((c.tc : Thread Cert.FfnOutNextIdeal.nD Cert.FfnOutNextIdeal.τ).loc Cert.FfnOutNextIdeal.main_arg2)
          ∧ r.2.mem ((c.tc : Thread Cert.FfnOutNextIdeal.nD Cert.FfnOutNextIdeal.τ).loc Cert.FfnOutNextIdeal.main_arg3) = m ((c.tc : Thread Cert.FfnOutNextIdeal.nD Cert.FfnOutNextIdeal.τ).loc Cert.FfnOutNextIdeal.main_arg3)
          ∧ r.2.mem ((c.tc : Thread Cert.FfnOutNextIdeal.nD Cert.FfnOutNextIdeal.τ).loc Cert.FfnOutNextIdeal.main_arg4) = m ((c.tc : Thread Cert.FfnOutNextIdeal.nD Cert.FfnOutNextIdeal.τ).loc Cert.FfnOutNextIdeal.main_arg4))
      ∧ θ_run (Cert.FfnOutNextRefIdeal.defs (F := Ideal)) (onTc (τ := Cert.FfnOutNextRefIdeal.τ) (Cert.FfnOutNextRefIdeal.main (F := Ideal))) ⟨m', fun _ => 0, g'⟩ (fun r => ∀ c : Dev Cert.FfnOutNextRefIdeal.nD,
          r.2.mem ((c.tc : Thread Cert.FfnOutNextRefIdeal.nD Cert.FfnOutNextRefIdeal.τ).loc Cert.FfnOutNextRefIdeal.main_v17) = v0 c
          ∧ r.2.mem ((c.tc : Thread Cert.FfnOutNextRefIdeal.nD Cert.FfnOutNextRefIdeal.τ).loc Cert.FfnOutNextRefIdeal.main_v31) = v1 c
          ∧ r.2.mem ((c.tc : Thread Cert.FfnOutNextRefIdeal.nD Cert.FfnOutNextRefIdeal.τ).loc Cert.FfnOutNextRefIdeal.main_arg0) = m' ((c.tc : Thread Cert.FfnOutNextRefIdeal.nD Cert.FfnOutNextRefIdeal.τ).loc Cert.FfnOutNextRefIdeal.main_arg0)
          ∧ r.2.mem ((c.tc : Thread Cert.FfnOutNextRefIdeal.nD Cert.FfnOutNextRefIdeal.τ).loc Cert.FfnOutNextRefIdeal.main_arg1) = m' ((c.tc : Thread Cert.FfnOutNextRefIdeal.nD Cert.FfnOutNextRefIdeal.τ).loc Cert.FfnOutNextRefIdeal.main_arg1)
          ∧ r.2.mem ((c.tc : Thread Cert.FfnOutNextRefIdeal.nD Cert.FfnOutNextRefIdeal.τ).loc Cert.FfnOutNextRefIdeal.main_arg2) = m' ((c.tc : Thread Cert.FfnOutNextRefIdeal.nD Cert.FfnOutNextRefIdeal.τ).loc Cert.FfnOutNextRefIdeal.main_arg2)
          ∧ r.2.mem ((c.tc : Thread Cert.FfnOutNextRefIdeal.nD Cert.FfnOutNextRefIdeal.τ).loc Cert.FfnOutNextRefIdeal.main_arg3) = m' ((c.tc : Thread Cert.FfnOutNextRefIdeal.nD Cert.FfnOutNextRefIdeal.τ).loc Cert.FfnOutNextRefIdeal.main_arg3)
          ∧ r.2.mem ((c.tc : Thread Cert.FfnOutNextRefIdeal.nD Cert.FfnOutNextRefIdeal.τ).loc Cert.FfnOutNextRefIdeal.main_arg4) = m' ((c.tc : Thread Cert.FfnOutNextRefIdeal.nD Cert.FfnOutNextRefIdeal.τ).loc Cert.FfnOutNextRefIdeal.main_arg4))

def preserves_Hgrn_HgrnIdeal : Prop :=
  True

def Claim : Prop :=
  ∃ (hFfnIn : Cert.FfnIn.Facts) (hFfnInIdeal : Cert.FfnInIdeal.Facts) (hFfnInRefIdeal : Cert.FfnInRefIdeal.Facts) (hSconvIn : Cert.SconvIn.Facts) (hSconvInIdeal : Cert.SconvInIdeal.Facts) (hSconvInRefIdeal : Cert.SconvInRefIdeal.Facts) (hFfnOut : Cert.FfnOut.Facts) (hFfnOutIdeal : Cert.FfnOutIdeal.Facts) (hFfnOutRefIdeal : Cert.FfnOutRefIdeal.Facts) (hMixOut : Cert.MixOut.Facts) (hMixOutIdeal : Cert.MixOutIdeal.Facts) (hMixOutRefIdeal : Cert.MixOutRefIdeal.Facts) (hHgrnQ : Cert.HgrnQ.Facts) (hHgrnQIdeal : Cert.HgrnQIdeal.Facts) (hHgrnQRefIdeal : Cert.HgrnQRefIdeal.Facts) (hHgrnV : Cert.HgrnV.Facts) (hHgrnVIdeal : Cert.HgrnVIdeal.Facts) (hHgrnVRefIdeal : Cert.HgrnVRefIdeal.Facts) (hHgrnGate : Cert.HgrnGate.Facts) (hHgrnGateIdeal : Cert.HgrnGateIdeal.Facts) (hHgrnGateRefIdeal : Cert.HgrnGateRefIdeal.Facts) (hNorm : Cert.Norm.Facts) (hNormIdeal : Cert.NormIdeal.Facts) (hNormRefIdeal : Cert.NormRefIdeal.Facts) (hFfnOutNext : Cert.FfnOutNext.Facts) (hFfnOutNextIdeal : Cert.FfnOutNextIdeal.Facts) (hFfnOutNextRefIdeal : Cert.FfnOutNextRefIdeal.Facts) (hHgrn : Cert.Hgrn.Facts) (hHgrnIdeal : Cert.HgrnIdeal.Facts),
    quiescent_FfnIn (hFfnIn := hFfnIn)
    ∧ quiescent_FfnInIdeal (hFfnInIdeal := hFfnInIdeal)
    ∧ quiescent_FfnInRefIdeal (hFfnInRefIdeal := hFfnInRefIdeal)
    ∧ quiescent_SconvIn (hSconvIn := hSconvIn)
    ∧ quiescent_SconvInIdeal (hSconvInIdeal := hSconvInIdeal)
    ∧ quiescent_SconvInRefIdeal (hSconvInRefIdeal := hSconvInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_HgrnQ (hHgrnQ := hHgrnQ)
    ∧ quiescent_HgrnQIdeal (hHgrnQIdeal := hHgrnQIdeal)
    ∧ quiescent_HgrnQRefIdeal (hHgrnQRefIdeal := hHgrnQRefIdeal)
    ∧ quiescent_HgrnV (hHgrnV := hHgrnV)
    ∧ quiescent_HgrnVIdeal (hHgrnVIdeal := hHgrnVIdeal)
    ∧ quiescent_HgrnVRefIdeal (hHgrnVRefIdeal := hHgrnVRefIdeal)
    ∧ quiescent_HgrnGate (hHgrnGate := hHgrnGate)
    ∧ quiescent_HgrnGateIdeal (hHgrnGateIdeal := hHgrnGateIdeal)
    ∧ quiescent_HgrnGateRefIdeal (hHgrnGateRefIdeal := hHgrnGateRefIdeal)
    ∧ quiescent_Norm (hNorm := hNorm)
    ∧ quiescent_NormIdeal (hNormIdeal := hNormIdeal)
    ∧ quiescent_NormRefIdeal (hNormRefIdeal := hNormRefIdeal)
    ∧ quiescent_FfnOutNext (hFfnOutNext := hFfnOutNext)
    ∧ quiescent_FfnOutNextIdeal (hFfnOutNextIdeal := hFfnOutNextIdeal)
    ∧ quiescent_FfnOutNextRefIdeal (hFfnOutNextRefIdeal := hFfnOutNextRefIdeal)
    ∧ quiescent_Hgrn (hHgrn := hHgrn)
    ∧ quiescent_HgrnIdeal (hHgrnIdeal := hHgrnIdeal)
    ∧ preserves_FfnIn_FfnInIdeal
    ∧ algebraic_FfnInIdeal_FfnInRefIdeal (hFfnInIdeal := hFfnInIdeal) (hFfnInRefIdeal := hFfnInRefIdeal)
    ∧ preserves_SconvIn_SconvInIdeal
    ∧ algebraic_SconvInIdeal_SconvInRefIdeal (hSconvInIdeal := hSconvInIdeal) (hSconvInRefIdeal := hSconvInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_MixOut_MixOutIdeal
    ∧ algebraic_MixOutIdeal_MixOutRefIdeal (hMixOutIdeal := hMixOutIdeal) (hMixOutRefIdeal := hMixOutRefIdeal)
    ∧ preserves_HgrnQ_HgrnQIdeal
    ∧ algebraic_HgrnQIdeal_HgrnQRefIdeal (hHgrnQIdeal := hHgrnQIdeal) (hHgrnQRefIdeal := hHgrnQRefIdeal)
    ∧ preserves_HgrnV_HgrnVIdeal
    ∧ algebraic_HgrnVIdeal_HgrnVRefIdeal (hHgrnVIdeal := hHgrnVIdeal) (hHgrnVRefIdeal := hHgrnVRefIdeal)
    ∧ preserves_HgrnGate_HgrnGateIdeal
    ∧ algebraic_HgrnGateIdeal_HgrnGateRefIdeal (hHgrnGateIdeal := hHgrnGateIdeal) (hHgrnGateRefIdeal := hHgrnGateRefIdeal)
    ∧ preserves_Norm_NormIdeal
    ∧ algebraic_NormIdeal_NormRefIdeal (hNormIdeal := hNormIdeal) (hNormRefIdeal := hNormRefIdeal)
    ∧ preserves_FfnOutNext_FfnOutNextIdeal
    ∧ algebraic_FfnOutNextIdeal_FfnOutNextRefIdeal (hFfnOutNextIdeal := hFfnOutNextIdeal) (hFfnOutNextRefIdeal := hFfnOutNextRefIdeal)
    ∧ preserves_Hgrn_HgrnIdeal
-- ==== FfnIn.lean ====
abbrev S8192x2048 : Shape := ⟨2, ![8192, 2048]⟩
abbrev S4x2048x11264 : Shape := ⟨3, ![4, 2048, 11264]⟩
abbrev S4x3x11264 : Shape := ⟨3, ![4, 3, 11264]⟩
abbrev S8192x5632 : Shape := ⟨2, ![8192, 5632]⟩
abbrev S16x2048 : Shape := ⟨2, ![16, 2048]⟩
abbrev S1024x2048 : Shape := ⟨2, ![1024, 2048]⟩
abbrev S1x2048x512 : Shape := ⟨3, ![1, 2048, 512]⟩
abbrev S1x3x512 : Shape := ⟨3, ![1, 3, 512]⟩
abbrev S1024x512 : Shape := ⟨2, ![1024, 512]⟩
abbrev S2048x512 : Shape := ⟨2, ![2048, 512]⟩
abbrev S1056x512 : Shape := ⟨2, ![1056, 512]⟩
abbrev S1040x2048 : Shape := ⟨2, ![1040, 2048]⟩
abbrev S1056x2048 : Shape := ⟨2, ![1056, 2048]⟩
abbrev S1x512 : Shape := ⟨2, ![1, 512]⟩
abbrev S1040x512 : Shape := ⟨2, ![1040, 512]⟩
abbrev S1x1x512 : Shape := ⟨3, ![1, 1, 512]⟩

abbrev nBuf : Space → Nat
  | .hbm => 4
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S4x2048x11264, .f32⟩
  | .hbm, ⟨2, _⟩ => ⟨S4x3x11264, .f32⟩
  | .hbm, ⟨3, _⟩ => ⟨S8192x5632, .bf16⟩
  | .local _ .vmem, ⟨0, _⟩ => ⟨S16x2048, .bf16⟩
  | .local _ .vmem, ⟨1, _⟩ => ⟨S16x2048, .bf16⟩
  | .local _ .vmem, ⟨2, _⟩ => ⟨S1024x2048, .bf16⟩
  | .local _ .vmem, ⟨3, _⟩ => ⟨S1024x2048, .bf16⟩
  | .local _ .vmem, ⟨4, _⟩ => ⟨S16x2048, .bf16⟩
  | .local _ .vmem, ⟨5, _⟩ => ⟨S16x2048, .bf16⟩
  | .local _ .vmem, ⟨6, _⟩ => ⟨S1x2048x512, .f32⟩
  | .local _ .vmem, ⟨7, _⟩ => ⟨S1x2048x512, .f32⟩
  | .local _ .vmem, ⟨8, _⟩ => ⟨S1x2048x512, .f32⟩
  | .local _ .vmem, ⟨9, _⟩ => ⟨S1x2048x512, .f32⟩
  | .local _ .vmem, ⟨10, _⟩ => ⟨S1x3x512, .f32⟩
  | .local _ .vmem, ⟨11, _⟩ => ⟨S1x3x512, .f32⟩
  | .local _ .vmem, ⟨12, _⟩ => ⟨S1x3x512, .f32⟩
  | .local _ .vmem, ⟨13, _⟩ => ⟨S1x3x512, .f32⟩
  | .local _ .vmem, ⟨14, _⟩ => ⟨S1024x512, .bf16⟩
  | .local _ .vmem, ⟨15, _⟩ => ⟨S1024x512, .bf16⟩
  | .local _ .vmem, ⟨16, _⟩ => ⟨S2048x512, .bf16⟩
  | .local _ .vmem, ⟨17, _⟩ => ⟨S2048x512, .bf16⟩
  | .local _ .vmem, ⟨18, _⟩ => ⟨S1056x512, .f32⟩
  | .local _ .vmem, ⟨19, _⟩ => ⟨S1056x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnInRefIdeal.lean ====
abbrev S8192x2048 : Shape := ⟨2, ![8192, 2048]⟩
abbrev S4x2048x11264 : Shape := ⟨3, ![4, 2048, 11264]⟩
abbrev S4x3x11264 : Shape := ⟨3, ![4, 3, 11264]⟩
abbrev S2x4096x2048 : Shape := ⟨3, ![2, 4096, 2048]⟩
abbrev S1x2048x11264 : Shape := ⟨3, ![1, 2048, 11264]⟩
abbrev S2048x11264 : Shape := ⟨2, ![2048, 11264]⟩
abbrev S2x4096x11264 : Shape := ⟨3, ![2, 4096, 11264]⟩
abbrev S1x3x11264 : Shape := ⟨3, ![1, 3, 11264]⟩
abbrev S3x11264 : Shape := ⟨2, ![3, 11264]⟩
abbrev S_ : Shape := ⟨0, ![]⟩
abbrev S2x4098x11264 : Shape := ⟨3, ![2, 4098, 11264]⟩
abbrev S1x11264 : Shape := ⟨2, ![1, 11264]⟩
abbrev S11264 : Shape := ⟨1, ![11264]⟩
abbrev S1x1x11264 : Shape := ⟨3, ![1, 1, 11264]⟩
abbrev S2x4096x5632 : Shape := ⟨3, ![2, 4096, 5632]⟩
abbrev S8192x5632 : Shape := ⟨2, ![8192, 5632]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x11264, .f32⟩
  | .hbm, ⟨2, _⟩ => ⟨S4x3x11264, .f32⟩
  | .hbm, ⟨3, _⟩ => ⟨S8192x2048, .f32⟩
  | .hbm, ⟨4, _⟩ => ⟨S2x4096x2048, .f32⟩
  | .hbm, ⟨5, _⟩ => ⟨S1x2048x11264, .f32⟩
  | .hbm, ⟨6, _⟩ => ⟨S2048x11264, .f32⟩
  | .hbm, ⟨7, _⟩ => ⟨S2x4096x11264, .f32⟩
  | .hbm, ⟨8, _⟩ => ⟨S1x3x11264, .f32⟩
  | .hbm, ⟨9, _⟩ => ⟨S3x11264, .f32⟩
  | .hbm, ⟨10, _⟩ => ⟨S_, .i32⟩
  | .hbm, ⟨11, _⟩ => ⟨S_, .f32⟩
  | .hbm, ⟨12, _⟩ => ⟨S2x4098x11264, .f32⟩
  | .hbm, ⟨13, _⟩ => ⟨S1x11264, .f32⟩
  | .hbm, ⟨14, _⟩ => ⟨S11264, .f32⟩
  | .hbm, ⟨15, _⟩ => ⟨S2x4096x11264, .f32⟩
  | .hbm, ⟨16, _⟩ => ⟨S1x1x11264, .f32⟩
  | .hbm, ⟨17, _⟩ => ⟨S2x4096x11264, .f32⟩
  | .hbm, ⟨18, _⟩ => ⟨S2x4096x11264, .f32⟩
  | .hbm, ⟨19, _⟩ => ⟨S1x11264, .f32⟩
  | .hbm, ⟨20, _⟩ => ⟨S11264, .f32⟩
  | .hbm, ⟨21, _⟩ => ⟨S2x4096x11264, .f32⟩
  | .hbm, ⟨22, _⟩ => ⟨S1x1x11264, .f32⟩
  | .hbm, ⟨23, _⟩ => ⟨S2x4096x11264, .f32⟩
  | .hbm, ⟨24, _⟩ => ⟨S2x4096x11264, .f32⟩
  | .hbm, ⟨25, _⟩ => ⟨S2x4096x11264, .f32⟩
  | .hbm, ⟨26, _⟩ => ⟨S1x11264, .f32⟩
  | .hbm, ⟨27, _⟩ => ⟨S11264, .f32⟩
  | .hbm, ⟨28, _⟩ => ⟨S2x4096x11264, .f32⟩
  | .hbm, ⟨29, _⟩ => ⟨S1x1x11264, .f32⟩
  | .hbm, ⟨30, _⟩ => ⟨S2x4096x11264, .f32⟩
  | .hbm, ⟨31, _⟩ => ⟨S2x4096x11264, .f32⟩
  | .hbm, ⟨32, _⟩ => ⟨S2x4096x11264, .f32⟩
  | .hbm, ⟨33, _⟩ => ⟨S2x4096x5632, .f32⟩
  | .hbm, ⟨34, _⟩ => ⟨S2x4096x5632, .f32⟩
  | .hbm, ⟨35, _⟩ => ⟨S2x4096x5632, .f32⟩
  | .hbm, ⟨36, _⟩ => ⟨S2x4096x5632, .f32⟩
  | .hbm, ⟨37, _⟩ => ⟨S_, .f32⟩
  | .hbm, ⟨38, _⟩ => ⟨S2x4096x5632, .f32⟩
  | .hbm, ⟨39, _⟩ => ⟨S2x4096x5632, .f32⟩
  | .hbm, ⟨40, _⟩ => ⟨S_, .f32⟩
  | .hbm, ⟨41, _⟩ => ⟨S2x4096x5632, .f32⟩
  | .hbm, ⟨42, _⟩ => ⟨S2x4096x5632, .f32⟩
  | .hbm, ⟨43, _⟩ => ⟨S2x4096x5632, .f32⟩
  | .hbm, ⟨44, _⟩ => ⟨S2x4096x5632, .f32⟩
  | .hbm, ⟨45, _⟩ => ⟨S8192x5632, .f32⟩
  | .hbm, ⟨46, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== SconvIn.lean ====
abbrev S8192x2048 : Shape := ⟨2, ![8192, 2048]⟩
abbrev S2x2048x6144 : Shape := ⟨3, ![2, 2048, 6144]⟩
abbrev S2x3x2048 : Shape := ⟨3, ![2, 3, 2048]⟩
abbrev S16x2048 : Shape := ⟨2, ![16, 2048]⟩
abbrev S1024x2048 : Shape := ⟨2, ![1024, 2048]⟩
abbrev S1x2048x512 : Shape := ⟨3, ![1, 2048, 512]⟩
abbrev S1x3x512 : Shape := ⟨3, ![1, 3, 512]⟩
abbrev S1024x512 : Shape := ⟨2, ![1024, 512]⟩
abbrev S2048x512 : Shape := ⟨2, ![2048, 512]⟩
abbrev S1056x512 : Shape := ⟨2, ![1056, 512]⟩
abbrev S1040x2048 : Shape := ⟨2, ![1040, 2048]⟩
abbrev S1056x2048 : Shape := ⟨2, ![1056, 2048]⟩
abbrev S1x512 : Shape := ⟨2, ![1, 512]⟩
abbrev S1040x512 : Shape := ⟨2, ![1040, 512]⟩
abbrev S1x1x512 : Shape := ⟨3, ![1, 1, 512]⟩

abbrev nBuf : Space → Nat
  | .hbm => 4
  | .vmem => 21
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .f32⟩
  | .hbm, ⟨2, _⟩ => ⟨S2x3x2048, .f32⟩
  | .hbm, ⟨3, _⟩ => ⟨S8192x2048, .bf16⟩
  | .local _ .vmem, ⟨0, _⟩ => ⟨S16x2048, .bf16⟩
  | .local _ .vmem, ⟨1, _⟩ => ⟨S16x2048, .bf16⟩
  | .local _ .vmem, ⟨2, _⟩ => ⟨S1024x2048, .bf16⟩
  | .local _ .vmem, ⟨3, _⟩ => ⟨S1024x2048, .bf16⟩
  | .local _ .vmem, ⟨4, _⟩ => ⟨S16x2048, .bf16⟩
  | .local _ .vmem, ⟨5, _⟩ => ⟨S16x2048, .bf16⟩
  | .local _ .vmem, ⟨6, _⟩ => ⟨S1x2048x512, .f32⟩
  | .local _ .vmem, ⟨7, _⟩ => ⟨S1x2048x512, .f32⟩
  | .local _ .vmem, ⟨8, _⟩ => ⟨S1x2048x512, .f32⟩
  | .local _ .vmem, ⟨9, _⟩ => ⟨S1x2048x512, .f32⟩
  | .local _ .vmem, ⟨10, _⟩ => ⟨S1x2048x512, .f32⟩
  | .local _ .vmem, ⟨11, _⟩ => ⟨S1x2048x512, .f32⟩
  | .local _ .vmem, ⟨12, _⟩ => ⟨S1x3x512, .f32⟩
  | .local _ .vmem, ⟨13, _⟩ => ⟨S1x3x512, .f32⟩
  | .local _ .vmem, ⟨14, _⟩ => ⟨S1024x512, .bf16⟩
  | .local _ .vmem, ⟨15, _⟩ => ⟨S1024x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S1056x512, .f32⟩
  | .local _ .vmem, ⟨20, _⟩ => ⟨S1056x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SconvInRefIdeal.lean ====
abbrev S8192x2048 : Shape := ⟨2, ![8192, 2048]⟩
abbrev S2x2048x6144 : Shape := ⟨3, ![2, 2048, 6144]⟩
abbrev S2x3x2048 : Shape := ⟨3, ![2, 3, 2048]⟩
abbrev S2x4096x2048 : Shape := ⟨3, ![2, 4096, 2048]⟩
abbrev S1x2048x6144 : Shape := ⟨3, ![1, 2048, 6144]⟩
abbrev S2048x6144 : Shape := ⟨2, ![2048, 6144]⟩
abbrev S2x4096x6144 : Shape := ⟨3, ![2, 4096, 6144]⟩
abbrev S1x3x2048 : Shape := ⟨3, ![1, 3, 2048]⟩
abbrev S3x2048 : Shape := ⟨2, ![3, 2048]⟩
abbrev S_ : Shape := ⟨0, ![]⟩
abbrev S2x4098x2048 : Shape := ⟨3, ![2, 4098, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .f32⟩
  | .hbm, ⟨2, _⟩ => ⟨S2x3x2048, .f32⟩
  | .hbm, ⟨3, _⟩ => ⟨S8192x2048, .f32⟩
  | .hbm, ⟨4, _⟩ => ⟨S2x4096x2048, .f32⟩
  | .hbm, ⟨5, _⟩ => ⟨S1x2048x6144, .f32⟩
  | .hbm, ⟨6, _⟩ => ⟨S2048x6144, .f32⟩
  | .hbm, ⟨7, _⟩ => ⟨S2x4096x6144, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S1x3x2048, .f32⟩
  | .hbm, ⟨13, _⟩ => ⟨S3x2048, .f32⟩
  | .hbm, ⟨14, _⟩ => ⟨S_, .i32⟩
  | .hbm, ⟨15, _⟩ => ⟨S_, .f32⟩
  | .hbm, ⟨16, _⟩ => ⟨S2x4098x2048, .f32⟩
  | .hbm, ⟨17, _⟩ => ⟨S1x2048, .f32⟩
  | .hbm, ⟨18, _⟩ => ⟨S2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S1x2048, .f32⟩
  | .hbm, ⟨24, _⟩ => ⟨S2048, .f32⟩
  | .hbm, ⟨25, _⟩ => ⟨S2x4096x2048, .f32⟩
  | .hbm, ⟨26, _⟩ => ⟨S1x1x2048, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S1x2048, .f32⟩
  | .hbm, ⟨31, _⟩ => ⟨S2048, .f32⟩
  | .hbm, ⟨32, _⟩ => ⟨S2x4096x2048, .f32⟩
  | .hbm, ⟨33, _⟩ => ⟨S1x1x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S8192x2048, .f32⟩
  | .hbm, ⟨39, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]
-- ==== FfnOut.lean ====
abbrev S8192x5632 : Shape := ⟨2, ![8192, 5632]⟩
abbrev S4x5632x2048 : Shape := ⟨3, ![4, 5632, 2048]⟩
abbrev S8192x2048 : Shape := ⟨2, ![8192, 2048]⟩
abbrev S2048 : Shape := ⟨1, ![2048]⟩
abbrev S1x2048 : Shape := ⟨2, ![1, 2048]⟩
abbrev S256x5632 : Shape := ⟨2, ![256, 5632]⟩
abbrev S1x5632x2048 : Shape := ⟨3, ![1, 5632, 2048]⟩
abbrev S256x2048 : Shape := ⟨2, ![256, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .hbm, ⟨3, _⟩ => ⟨S2048, .f32⟩
  | .hbm, ⟨4, _⟩ => ⟨S4x5632x2048, .bf16⟩
  | .hbm, ⟨5, _⟩ => ⟨S1x2048, .f32⟩
  | .hbm, ⟨6, _⟩ => ⟨S1x2048, .f32⟩
  | .hbm, ⟨7, _⟩ => ⟨S8192x2048, .f32⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnOutRefIdeal.lean ====
abbrev S8192x5632 : Shape := ⟨2, ![8192, 5632]⟩
abbrev S4x5632x2048 : Shape := ⟨3, ![4, 5632, 2048]⟩
abbrev S8192x2048 : Shape := ⟨2, ![8192, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .hbm, ⟨3, _⟩ => ⟨S2048, .f32⟩
  | .hbm, ⟨4, _⟩ => ⟨S8192x5632, .f32⟩
  | .hbm, ⟨5, _⟩ => ⟨S1x5632x2048, .f32⟩
  | .hbm, ⟨6, _⟩ => ⟨S5632x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MixOut.lean ====
abbrev S8192x2048 : Shape := ⟨2, ![8192, 2048]⟩
abbrev S2x2048x2048 : Shape := ⟨3, ![2, 2048, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2x2048x2048, .bf16⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixOutRefIdeal.lean ====
abbrev S8192x2048 : Shape := ⟨2, ![8192, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S1x2048x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== HgrnQ.lean ====
abbrev S8192x2048 : Shape := ⟨2, ![8192, 2048]⟩
abbrev S2x2048x10240 : Shape := ⟨3, ![2, 2048, 10240]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x10240, .f32⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgrnQRefIdeal.lean ====
abbrev S8192x2048 : Shape := ⟨2, ![8192, 2048]⟩
abbrev S2x2048x10240 : Shape := ⟨3, ![2, 2048, 10240]⟩
abbrev S1x2048x10240 : Shape := ⟨3, ![1, 2048, 10240]⟩
abbrev S2048x10240 : Shape := ⟨2, ![2048, 10240]⟩
abbrev S8192x10240 : Shape := ⟨2, ![8192, 10240]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x10240, .f32⟩
  | .hbm, ⟨2, _⟩ => ⟨S8192x2048, .f32⟩
  | .hbm, ⟨3, _⟩ => ⟨S1x2048x10240, .f32⟩
  | .hbm, ⟨4, _⟩ => ⟨S2048x10240, .f32⟩
  | .hbm, ⟨5, _⟩ => ⟨S8192x10240, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== HgrnV.lean ====
abbrev S8192x2048 : Shape := ⟨2, ![8192, 2048]⟩
abbrev S2x2048x10240 : Shape := ⟨3, ![2, 2048, 10240]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x10240, .f32⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgrnVRefIdeal.lean ====
abbrev S8192x2048 : Shape := ⟨2, ![8192, 2048]⟩
abbrev S2x2048x10240 : Shape := ⟨3, ![2, 2048, 10240]⟩
abbrev S1x2048x10240 : Shape := ⟨3, ![1, 2048, 10240]⟩
abbrev S2048x10240 : Shape := ⟨2, ![2048, 10240]⟩
abbrev S8192x10240 : Shape := ⟨2, ![8192, 10240]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x10240, .f32⟩
  | .hbm, ⟨2, _⟩ => ⟨S8192x2048, .f32⟩
  | .hbm, ⟨3, _⟩ => ⟨S1x2048x10240, .f32⟩
  | .hbm, ⟨4, _⟩ => ⟨S2048x10240, .f32⟩
  | .hbm, ⟨5, _⟩ => ⟨S8192x10240, .f32⟩
  | .hbm, ⟨6, _⟩ => ⟨S8192x2048, .f32⟩
  | .hbm, ⟨7, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== HgrnGate.lean ====
abbrev S8192x2048 : Shape := ⟨2, ![8192, 2048]⟩
abbrev S2x2048x10240 : Shape := ⟨3, ![2, 2048, 10240]⟩
abbrev S2x2x2048 : Shape := ⟨3, ![2, 2, 2048]⟩
abbrev S1024x2048 : Shape := ⟨2, ![1024, 2048]⟩
abbrev S1x2048x1024 : Shape := ⟨3, ![1, 2048, 1024]⟩
abbrev S1x2x1024 : Shape := ⟨3, ![1, 2, 1024]⟩
abbrev S1024x1024 : Shape := ⟨2, ![1024, 1024]⟩
abbrev S2048x1024 : Shape := ⟨2, ![2048, 1024]⟩
abbrev S2x1024 : Shape := ⟨2, ![2, 1024]⟩
abbrev S1024 : Shape := ⟨1, ![1024]⟩
abbrev S1x1024 : Shape := ⟨2, ![1, 1024]⟩
abbrev S256x2048 : Shape := ⟨2, ![256, 2048]⟩
abbrev S256x1024 : Shape := ⟨2, ![256, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x2048x10240, .f32⟩
  | .hbm, ⟨2, _⟩ => ⟨S2x2x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2x1024, .f32⟩
  | .local _ .vmem, ⟨5, _⟩ => ⟨S1x2x1024, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HgrnGateIdeal.lean ====
variable {F : FTy → Type} [FloatOps F] [Named F]
def κ : String → Option EReal := fun
  | "INV_LN2" => some (((Real.log 2)⁻¹ : ℝ) : EReal)
  | _ => none
-- ==== HgrnGateRefIdeal.lean ====
abbrev S8192x2048 : Shape := ⟨2, ![8192, 2048]⟩
abbrev S2x2048x10240 : Shape := ⟨3, ![2, 2048, 10240]⟩
abbrev S2x2x2048 : Shape := ⟨3, ![2, 2, 2048]⟩
abbrev S_ : Shape := ⟨0, ![]⟩
abbrev S2x2048 : Shape := ⟨2, ![2, 2048]⟩
abbrev S2x1x2048 : Shape := ⟨3, ![2, 1, 2048]⟩
abbrev S1x2048x10240 : Shape := ⟨3, ![1, 2048, 10240]⟩
abbrev S2048x10240 : Shape := ⟨2, ![2048, 10240]⟩
abbrev S8192x10240 : Shape := ⟨2, ![8192, 10240]⟩
abbrev S1x1x2048 : Shape := ⟨3, ![1, 1, 2048]⟩
abbrev S2048 : Shape := ⟨1, ![2048]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x10240, .f32⟩
  | .hbm, ⟨2, _⟩ => ⟨S2x2x2048, .f32⟩
  | .hbm, ⟨3, _⟩ => ⟨S_, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S2x1x2048, .f32⟩
  | .hbm, ⟨9, _⟩ => ⟨S2x2x2048, .f32⟩
  | .hbm, ⟨10, _⟩ => ⟨S2x2x2048, .f32⟩
  | .hbm, ⟨11, _⟩ => ⟨S2x2x2048, .f32⟩
  | .hbm, ⟨12, _⟩ => ⟨S_, .f32⟩
  | .hbm, ⟨13, _⟩ => ⟨S2x2048, .f32⟩
  | .hbm, ⟨14, _⟩ => ⟨S2x1x2048, .f32⟩
  | .hbm, ⟨15, _⟩ => ⟨S2x2x2048, .f32⟩
  | .hbm, ⟨16, _⟩ => ⟨S2x2x2048, .f32⟩
  | .hbm, ⟨17, _⟩ => ⟨S_, .f32⟩
  | .hbm, ⟨18, _⟩ => ⟨S_, .f32⟩
  | .hbm, ⟨19, _⟩ => ⟨S2x2x2048, .f32⟩
  | .hbm, ⟨20, _⟩ => ⟨S2x1x2048, .f32⟩
  | .hbm, ⟨21, _⟩ => ⟨S2x2x2048, .f32⟩
  | .hbm, ⟨22, _⟩ => ⟨S2x2x2048, .f32⟩
  | .hbm, ⟨23, _⟩ => ⟨S8192x2048, .f32⟩
  | .hbm, ⟨24, _⟩ => ⟨S1x2048x10240, .f32⟩
  | .hbm, ⟨25, _⟩ => ⟨S2048x10240, .f32⟩
  | .hbm, ⟨26, _⟩ => ⟨S8192x10240, .f32⟩
  | .hbm, ⟨27, _⟩ => ⟨S1x1x2048, .f32⟩
  | .hbm, ⟨28, _⟩ => ⟨S2048, .f32⟩
  | .hbm, ⟨29, _⟩ => ⟨S1x1x2048, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S_, .f32⟩
  | .hbm, ⟨52, _⟩ => ⟨S8192x2048, .f32⟩
  | .hbm, ⟨53, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FfnOutNext.lean ====
abbrev S8192x5632 : Shape := ⟨2, ![8192, 5632]⟩
abbrev S4x5632x2048 : Shape := ⟨3, ![4, 5632, 2048]⟩
abbrev S8192x2048 : Shape := ⟨2, ![8192, 2048]⟩
abbrev S2048 : Shape := ⟨1, ![2048]⟩
abbrev S1x2048 : Shape := ⟨2, ![1, 2048]⟩
abbrev S256x5632 : Shape := ⟨2, ![256, 5632]⟩
abbrev S1x5632x2048 : Shape := ⟨3, ![1, 5632, 2048]⟩
abbrev S256x2048 : Shape := ⟨2, ![256, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S4x5632x2048, .bf16⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnOutNextRefIdeal.lean ====
abbrev S8192x5632 : Shape := ⟨2, ![8192, 5632]⟩
abbrev S4x5632x2048 : Shape := ⟨3, ![4, 5632, 2048]⟩
abbrev S8192x2048 : Shape := ⟨2, ![8192, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x5632, .f32⟩
  | .hbm, ⟨6, _⟩ => ⟨S1x5632x2048, .f32⟩
  | .hbm, ⟨7, _⟩ => ⟨S5632x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Hgrn.lean ====
abbrev S2x4096x2048 : Shape := ⟨3, ![2, 4096, 2048]⟩
abbrev S128 : Shape := ⟨1, ![128]⟩
abbrev S1024 : Shape := ⟨1, ![1024]⟩
abbrev S_ : Shape := ⟨0, ![]⟩
abbrev S1x128 : Shape := ⟨2, ![1, 128]⟩
abbrev S1024x1 : Shape := ⟨2, ![1024, 1]⟩
abbrev S1024x128 : Shape := ⟨2, ![1024, 128]⟩
abbrev S1x4096x128 : Shape := ⟨3, ![1, 4096, 128]⟩
abbrev S4096x128 : Shape := ⟨2, ![4096, 128]⟩
abbrev S128x128 : Shape := ⟨2, ![128, 128]⟩
abbrev S16x7x80x128 : Shape := ⟨4, ![16, 7, 80, 128]⟩
abbrev S16x7x8x128 : Shape := ⟨4, ![16, 7, 8, 128]⟩
abbrev S64x64 : Shape := ⟨2, ![64, 64]⟩
abbrev S1x64x128 : Shape := ⟨3, ![1, 64, 128]⟩
abbrev S64x128 : Shape := ⟨2, ![64, 128]⟩
abbrev S8x8x128 : Shape := ⟨3, ![8, 8, 128]⟩
abbrev S1x8x128 : Shape := ⟨3, ![1, 8, 128]⟩
abbrev S8x128 : Shape := ⟨2, ![8, 128]⟩
abbrev S32x128 : Shape := ⟨2, ![32, 128]⟩
abbrev S8x256 : Shape := ⟨2, ![8, 256]⟩
abbrev S32x256 : Shape := ⟨2, ![32, 256]⟩
abbrev S64x256 : Shape := ⟨2, ![64, 256]⟩
abbrev S8x512 : Shape := ⟨2, ![8, 512]⟩
abbrev S32x512 : Shape := ⟨2, ![32, 512]⟩
abbrev S64x512 : Shape := ⟨2, ![64, 512]⟩
abbrev S1x7x80x128 : Shape := ⟨4, ![1, 7, 80, 128]⟩
abbrev S7x80x128 : Shape := ⟨3, ![7, 80, 128]⟩
abbrev S64x1024 : Shape := ⟨2, ![64, 1024]⟩
abbrev S1024x1024 : Shape := ⟨2, ![1024, 1024]⟩
abbrev S32x64 : Shape := ⟨2, ![32, 64]⟩
abbrev S8x64 : Shape := ⟨2, ![8, 64]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 65
  | .vmem => 21
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .f32⟩
  | .hbm, ⟨2, _⟩ => ⟨S2x4096x2048, .f32⟩
  | .hbm, ⟨3, _⟩ => ⟨S2x4096x2048, .bf16⟩
  | .hbm, ⟨4, _⟩ => ⟨S2x4096x2048, .bf16⟩
  | .hbm, ⟨5, _⟩ => ⟨S128, .f32⟩
  | .hbm, ⟨6, _⟩ => ⟨S1024, .i32⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S128, .i32⟩
  | .hbm, ⟨26, _⟩ => ⟨S1x128, .i32⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S_, .i1⟩
  | .hbm, ⟨46, _⟩ => ⟨S1024, .i1⟩
  | .hbm, ⟨47, _⟩ => ⟨S1024, .i1⟩
  | .hbm, ⟨48, _⟩ => ⟨S1024, .i1⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S1024x1, .i32⟩
  | .hbm, ⟨53, _⟩ => ⟨S1024x128, .i32⟩
  | .hbm, ⟨54, _⟩ => ⟨S1024x128, .i32⟩
  | .hbm, ⟨55, _⟩ => ⟨S1024x128, .i1⟩
  | .hbm, ⟨56, _⟩ => ⟨S1024x128, .bf16⟩
  | .hbm, ⟨57, _⟩ => ⟨S1x128, .i32⟩
  | .hbm, ⟨58, _⟩ => ⟨S1024x1, .i32⟩
  | .hbm, ⟨59, _⟩ => ⟨S1024x128, .i32⟩
  | .hbm, ⟨60, _⟩ => ⟨S1024x128, .i32⟩
  | .hbm, ⟨61, _⟩ => ⟨S1024x128, .i1⟩
  | .hbm, ⟨62, _⟩ => ⟨S1024x128, .bf16⟩
  | .hbm, ⟨63, _⟩ => ⟨S1x128, .f32⟩
  | .hbm, ⟨64, _⟩ => ⟨S2x4096x2048, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x128, .f32⟩
  | .local _ .vmem, ⟨11, _⟩ => ⟨S1024x128, .bf16⟩
  | .local _ .vmem, ⟨12, _⟩ => ⟨S1024x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S4096x128, .f32⟩
  | .local _ .vmem, ⟨16, _⟩ => ⟨S4096x128, .f32⟩
  | .local _ .vmem, ⟨17, _⟩ => ⟨S128x128, .f32⟩
  | .local _ .vmem, ⟨18, _⟩ => ⟨S128x128, .f32⟩
  | .local _ .vmem, ⟨19, _⟩ => ⟨S16x7x80x128, .f32⟩
  | .local _ .vmem, ⟨20, _⟩ => ⟨S16x7x80x128, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_c_1 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_32 : BitVec 32 := 0#32
  let c4_i32 : BitVec 32 := 4#32
  let v77 : BitVec 32 := Scalar.addi c0_i32_32 c4_i32
  let c1_i32_33 : BitVec 32 := 1#32
  ⟨c0_i32_32, v77, c1_i32_33⟩
def k0_mult1 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32 : BitVec 32 := 16#32
  let v79 : BitVec 32 := Scalar.muli arg17 c16_i32
  let c0_i32_39 : BitVec 32 := 0#32
  let v80 : BitVec 32 := Scalar.addi v79 c0_i32_39
  let c64_i32 : BitVec 32 := 64#32
  let v81 : BitVec 32 := Scalar.muli v80 c64_i32
  v81
def k0_off1 (k0_t1 : Fin k0_t1_loop.trips) (c0_i32_39 : BitVec 32) : Fin 3 → Nat :=
  let c0_40 : Index := 0#32
  let c0_i32_32 : BitVec 32 := 0#32
  let c1_i32_33 : BitVec 32 := 1#32
  let arg17 : BitVec 32 := Scf.iv c0_i32_32 c1_i32_33 k0_t1
  let c16_i32 : BitVec 32 := 16#32
  let v79 : BitVec 32 := Scalar.muli arg17 c16_i32
  let v80 : BitVec 32 := Scalar.addi v79 c0_i32_39
  let c64_i32 : BitVec 32 := 64#32
  let v81 : BitVec 32 := Scalar.muli v80 c64_i32
  let v82 : BitVec 32 := v81
  let v83 : Index := Scalar.indexCast v82
  let c0_41 : Index := 0#32
  ![0, v83.toNat, 0]
def k0_mult2 (k0_t1 : Fin k0_t1_loop.trips) : BitVec 32 :=
  let c63_i32 : BitVec 32 := 63#32
  let c0_i32_32 : BitVec 32 := 0#32
  let c1_i32_33 : BitVec 32 := 1#32
  let arg17 : BitVec 32 := Scf.iv c0_i32_32 c1_i32_33 k0_t1
  let c16_i32 : BitVec 32 := 16#32
  let v79 : BitVec 32 := Scalar.muli arg17 c16_i32
  let c0_i32_39 : BitVec 32 := 0#32
  let v80 : BitVec 32 := Scalar.addi v79 c0_i32_39
  let v429 : BitVec 32 := Scalar.subi c63_i32 v80
  let c64_i32_146 : BitVec 32 := 64#32
  let v430 : BitVec 32 := Scalar.muli v429 c64_i32_146
  v430
def k0_off2 (k0_t1 : Fin k0_t1_loop.trips) (c0_i32_39 : BitVec 32) : Fin 3 → Nat :=
  let c0_147 : Index := 0#32
  let c63_i32 : BitVec 32 := 63#32
  let c0_i32_32 : BitVec 32 := 0#32
  let c1_i32_33 : BitVec 32 := 1#32
  let arg17 : BitVec 32 := Scf.iv c0_i32_32 c1_i32_33 k0_t1
  let c16_i32 : BitVec 32 := 16#32
  let v79 : BitVec 32 := Scalar.muli arg17 c16_i32
  let v80 : BitVec 32 := Scalar.addi v79 c0_i32_39
  let v429 : BitVec 32 := Scalar.subi c63_i32 v80
  let c64_i32_146 : BitVec 32 := 64#32
  let v430 : BitVec 32 := Scalar.muli v429 c64_i32_146
  let v431 : BitVec 32 := v430
  let v432 : Index := Scalar.indexCast v431
  let c0_148 : Index := 0#32
  ![0, v432.toNat, 0]
def k0_mult3 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_259 : BitVec 32 := 16#32
  let v778 : BitVec 32 := Scalar.muli arg17 c16_i32_259
  let c1_i32_260 : BitVec 32 := 1#32
  let v779 : BitVec 32 := Scalar.addi v778 c1_i32_260
  let c64_i32_261 : BitVec 32 := 64#32
  let v780 : BitVec 32 := Scalar.muli v779 c64_i32_261
  v780
def k0_mult4 (k0_t1 : Fin k0_t1_loop.trips) : BitVec 32 :=
  let c63_i32_377 : BitVec 32 := 63#32
  let c0_i32_32 : BitVec 32 := 0#32
  let c1_i32_33 : BitVec 32 := 1#32
  let arg17 : BitVec 32 := Scf.iv c0_i32_32 c1_i32_33 k0_t1
  let c16_i32_259 : BitVec 32 := 16#32
  let v778 : BitVec 32 := Scalar.muli arg17 c16_i32_259
  let c1_i32_260 : BitVec 32 := 1#32
  let v779 : BitVec 32 := Scalar.addi v778 c1_i32_260
  let v1128 : BitVec 32 := Scalar.subi c63_i32_377 v779
  let c64_i32_378 : BitVec 32 := 64#32
  let v1129 : BitVec 32 := Scalar.muli v1128 c64_i32_378
  v1129
def k0_mult5 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_494 : BitVec 32 := 16#32
  let v1477 : BitVec 32 := Scalar.muli arg17 c16_i32_494
  let c2_i32_495 : BitVec 32 := 2#32
  let v1478 : BitVec 32 := Scalar.addi v1477 c2_i32_495
  let c64_i32_496 : BitVec 32 := 64#32
  let v1479 : BitVec 32 := Scalar.muli v1478 c64_i32_496
  v1479
def k0_mult6 (k0_t1 : Fin k0_t1_loop.trips) : BitVec 32 :=
  let c63_i32_612 : BitVec 32 := 63#32
  let c0_i32_32 : BitVec 32 := 0#32
  let c1_i32_33 : BitVec 32 := 1#32
  let arg17 : BitVec 32 := Scf.iv c0_i32_32 c1_i32_33 k0_t1
  let c16_i32_494 : BitVec 32 := 16#32
  let v1477 : BitVec 32 := Scalar.muli arg17 c16_i32_494
  let c2_i32_495 : BitVec 32 := 2#32
  let v1478 : BitVec 32 := Scalar.addi v1477 c2_i32_495
  let v1827 : BitVec 32 := Scalar.subi c63_i32_612 v1478
  let c64_i32_613 : BitVec 32 := 64#32
  let v1828 : BitVec 32 := Scalar.muli v1827 c64_i32_613
  v1828
def k0_mult7 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_729 : BitVec 32 := 16#32
  let v2176 : BitVec 32 := Scalar.muli arg17 c16_i32_729
  let c3_i32 : BitVec 32 := 3#32
  let v2177 : BitVec 32 := Scalar.addi v2176 c3_i32
  let c64_i32_730 : BitVec 32 := 64#32
  let v2178 : BitVec 32 := Scalar.muli v2177 c64_i32_730
  v2178
def k0_mult8 (k0_t1 : Fin k0_t1_loop.trips) : BitVec 32 :=
  let c63_i32_846 : BitVec 32 := 63#32
  let c0_i32_32 : BitVec 32 := 0#32
  let c1_i32_33 : BitVec 32 := 1#32
  let arg17 : BitVec 32 := Scf.iv c0_i32_32 c1_i32_33 k0_t1
  let c16_i32_729 : BitVec 32 := 16#32
  let v2176 : BitVec 32 := Scalar.muli arg17 c16_i32_729
  let c3_i32 : BitVec 32 := 3#32
  let v2177 : BitVec 32 := Scalar.addi v2176 c3_i32
  let v2526 : BitVec 32 := Scalar.subi c63_i32_846 v2177
  let c64_i32_847 : BitVec 32 := 64#32
  let v2527 : BitVec 32 := Scalar.muli v2526 c64_i32_847
  v2527
def k0_mult9 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_963 : BitVec 32 := 16#32
  let v2875 : BitVec 32 := Scalar.muli arg17 c16_i32_963
  let c4_i32_964 : BitVec 32 := 4#32
  let v2876 : BitVec 32 := Scalar.addi v2875 c4_i32_964
  let c64_i32_965 : BitVec 32 := 64#32
  let v2877 : BitVec 32 := Scalar.muli v2876 c64_i32_965
  v2877
def k0_mult10 (k0_t1 : Fin k0_t1_loop.trips) : BitVec 32 :=
  let c63_i32_1081 : BitVec 32 := 63#32
  let c0_i32_32 : BitVec 32 := 0#32
  let c1_i32_33 : BitVec 32 := 1#32
  let arg17 : BitVec 32 := Scf.iv c0_i32_32 c1_i32_33 k0_t1
  let c16_i32_963 : BitVec 32 := 16#32
  let v2875 : BitVec 32 := Scalar.muli arg17 c16_i32_963
  let c4_i32_964 : BitVec 32 := 4#32
  let v2876 : BitVec 32 := Scalar.addi v2875 c4_i32_964
  let v3225 : BitVec 32 := Scalar.subi c63_i32_1081 v2876
  let c64_i32_1082 : BitVec 32 := 64#32
  let v3226 : BitVec 32 := Scalar.muli v3225 c64_i32_1082
  v3226
def k0_mult11 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_1198 : BitVec 32 := 16#32
  let v3574 : BitVec 32 := Scalar.muli arg17 c16_i32_1198
  let c5_i32 : BitVec 32 := 5#32
  let v3575 : BitVec 32 := Scalar.addi v3574 c5_i32
  let c64_i32_1199 : BitVec 32 := 64#32
  let v3576 : BitVec 32 := Scalar.muli v3575 c64_i32_1199
  v3576
def k0_mult12 (k0_t1 : Fin k0_t1_loop.trips) : BitVec 32 :=
  let c63_i32_1315 : BitVec 32 := 63#32
  let c0_i32_32 : BitVec 32 := 0#32
  let c1_i32_33 : BitVec 32 := 1#32
  let arg17 : BitVec 32 := Scf.iv c0_i32_32 c1_i32_33 k0_t1
  let c16_i32_1198 : BitVec 32 := 16#32
  let v3574 : BitVec 32 := Scalar.muli arg17 c16_i32_1198
  let c5_i32 : BitVec 32 := 5#32
  let v3575 : BitVec 32 := Scalar.addi v3574 c5_i32
  let v3924 : BitVec 32 := Scalar.subi c63_i32_1315 v3575
  let c64_i32_1316 : BitVec 32 := 64#32
  let v3925 : BitVec 32 := Scalar.muli v3924 c64_i32_1316
  v3925
def k0_mult13 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_1432 : BitVec 32 := 16#32
  let v4273 : BitVec 32 := Scalar.muli arg17 c16_i32_1432
  let c6_i32_1433 : BitVec 32 := 6#32
  let v4274 : BitVec 32 := Scalar.addi v4273 c6_i32_1433
  let c64_i32_1434 : BitVec 32 := 64#32
  let v4275 : BitVec 32 := Scalar.muli v4274 c64_i32_1434
  v4275
def k0_mult14 (k0_t1 : Fin k0_t1_loop.trips) : BitVec 32 :=
  let c63_i32_1550 : BitVec 32 := 63#32
  let c0_i32_32 : BitVec 32 := 0#32
  let c1_i32_33 : BitVec 32 := 1#32
  let arg17 : BitVec 32 := Scf.iv c0_i32_32 c1_i32_33 k0_t1
  let c16_i32_1432 : BitVec 32 := 16#32
  let v4273 : BitVec 32 := Scalar.muli arg17 c16_i32_1432
  let c6_i32_1433 : BitVec 32 := 6#32
  let v4274 : BitVec 32 := Scalar.addi v4273 c6_i32_1433
  let v4623 : BitVec 32 := Scalar.subi c63_i32_1550 v4274
  let c64_i32_1551 : BitVec 32 := 64#32
  let v4624 : BitVec 32 := Scalar.muli v4623 c64_i32_1551
  v4624
def k0_mult15 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_1667 : BitVec 32 := 16#32
  let v4972 : BitVec 32 := Scalar.muli arg17 c16_i32_1667
  let c7_i32_1668 : BitVec 32 := 7#32
  let v4973 : BitVec 32 := Scalar.addi v4972 c7_i32_1668
  let c64_i32_1669 : BitVec 32 := 64#32
  let v4974 : BitVec 32 := Scalar.muli v4973 c64_i32_1669
  v4974
def k0_mult16 (k0_t1 : Fin k0_t1_loop.trips) : BitVec 32 :=
  let c63_i32_1785 : BitVec 32 := 63#32
  let c0_i32_32 : BitVec 32 := 0#32
  let c1_i32_33 : BitVec 32 := 1#32
  let arg17 : BitVec 32 := Scf.iv c0_i32_32 c1_i32_33 k0_t1
  let c16_i32_1667 : BitVec 32 := 16#32
  let v4972 : BitVec 32 := Scalar.muli arg17 c16_i32_1667
  let c7_i32_1668 : BitVec 32 := 7#32
  let v4973 : BitVec 32 := Scalar.addi v4972 c7_i32_1668
  let v5322 : BitVec 32 := Scalar.subi c63_i32_1785 v4973
  let c64_i32_1786 : BitVec 32 := 64#32
  let v5323 : BitVec 32 := Scalar.muli v5322 c64_i32_1786
  v5323
def k0_mult17 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_1902 : BitVec 32 := 16#32
  let v5671 : BitVec 32 := Scalar.muli arg17 c16_i32_1902
  let c8_i32_1903 : BitVec 32 := 8#32
  let v5672 : BitVec 32 := Scalar.addi v5671 c8_i32_1903
  let c64_i32_1904 : BitVec 32 := 64#32
  let v5673 : BitVec 32 := Scalar.muli v5672 c64_i32_1904
  v5673
def k0_mult18 (k0_t1 : Fin k0_t1_loop.trips) : BitVec 32 :=
  let c63_i32_2020 : BitVec 32 := 63#32
  let c0_i32_32 : BitVec 32 := 0#32
  let c1_i32_33 : BitVec 32 := 1#32
  let arg17 : BitVec 32 := Scf.iv c0_i32_32 c1_i32_33 k0_t1
  let c16_i32_1902 : BitVec 32 := 16#32
  let v5671 : BitVec 32 := Scalar.muli arg17 c16_i32_1902
  let c8_i32_1903 : BitVec 32 := 8#32
  let v5672 : BitVec 32 := Scalar.addi v5671 c8_i32_1903
  let v6021 : BitVec 32 := Scalar.subi c63_i32_2020 v5672
  let c64_i32_2021 : BitVec 32 := 64#32
  let v6022 : BitVec 32 := Scalar.muli v6021 c64_i32_2021
  v6022
def k0_mult19 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_2137 : BitVec 32 := 16#32
  let v6370 : BitVec 32 := Scalar.muli arg17 c16_i32_2137
  let c9_i32 : BitVec 32 := 9#32
  let v6371 : BitVec 32 := Scalar.addi v6370 c9_i32
  let c64_i32_2138 : BitVec 32 := 64#32
  let v6372 : BitVec 32 := Scalar.muli v6371 c64_i32_2138
  v6372
def k0_mult20 (k0_t1 : Fin k0_t1_loop.trips) : BitVec 32 :=
  let c63_i32_2254 : BitVec 32 := 63#32
  let c0_i32_32 : BitVec 32 := 0#32
  let c1_i32_33 : BitVec 32 := 1#32
  let arg17 : BitVec 32 := Scf.iv c0_i32_32 c1_i32_33 k0_t1
  let c16_i32_2137 : BitVec 32 := 16#32
  let v6370 : BitVec 32 := Scalar.muli arg17 c16_i32_2137
  let c9_i32 : BitVec 32 := 9#32
  let v6371 : BitVec 32 := Scalar.addi v6370 c9_i32
  let v6720 : BitVec 32 := Scalar.subi c63_i32_2254 v6371
  let c64_i32_2255 : BitVec 32 := 64#32
  let v6721 : BitVec 32 := Scalar.muli v6720 c64_i32_2255
  v6721
def k0_mult21 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_2371 : BitVec 32 := 16#32
  let v7069 : BitVec 32 := Scalar.muli arg17 c16_i32_2371
  let c10_i32 : BitVec 32 := 10#32
  let v7070 : BitVec 32 := Scalar.addi v7069 c10_i32
  let c64_i32_2372 : BitVec 32 := 64#32
  let v7071 : BitVec 32 := Scalar.muli v7070 c64_i32_2372
  v7071
def k0_mult22 (k0_t1 : Fin k0_t1_loop.trips) : BitVec 32 :=
  let c63_i32_2488 : BitVec 32 := 63#32
  let c0_i32_32 : BitVec 32 := 0#32
  let c1_i32_33 : BitVec 32 := 1#32
  let arg17 : BitVec 32 := Scf.iv c0_i32_32 c1_i32_33 k0_t1
  let c16_i32_2371 : BitVec 32 := 16#32
  let v7069 : BitVec 32 := Scalar.muli arg17 c16_i32_2371
  let c10_i32 : BitVec 32 := 10#32
  let v7070 : BitVec 32 := Scalar.addi v7069 c10_i32
  let v7419 : BitVec 32 := Scalar.subi c63_i32_2488 v7070
  let c64_i32_2489 : BitVec 32 := 64#32
  let v7420 : BitVec 32 := Scalar.muli v7419 c64_i32_2489
  v7420
def k0_mult23 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_2605 : BitVec 32 := 16#32
  let v7768 : BitVec 32 := Scalar.muli arg17 c16_i32_2605
  let c11_i32 : BitVec 32 := 11#32
  let v7769 : BitVec 32 := Scalar.addi v7768 c11_i32
  let c64_i32_2606 : BitVec 32 := 64#32
  let v7770 : BitVec 32 := Scalar.muli v7769 c64_i32_2606
  v7770
def k0_mult24 (k0_t1 : Fin k0_t1_loop.trips) : BitVec 32 :=
  let c63_i32_2722 : BitVec 32 := 63#32
  let c0_i32_32 : BitVec 32 := 0#32
  let c1_i32_33 : BitVec 32 := 1#32
  let arg17 : BitVec 32 := Scf.iv c0_i32_32 c1_i32_33 k0_t1
  let c16_i32_2605 : BitVec 32 := 16#32
  let v7768 : BitVec 32 := Scalar.muli arg17 c16_i32_2605
  let c11_i32 : BitVec 32 := 11#32
  let v7769 : BitVec 32 := Scalar.addi v7768 c11_i32
  let v8118 : BitVec 32 := Scalar.subi c63_i32_2722 v7769
  let c64_i32_2723 : BitVec 32 := 64#32
  let v8119 : BitVec 32 := Scalar.muli v8118 c64_i32_2723
  v8119
def k0_mult25 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_2839 : BitVec 32 := 16#32
  let v8467 : BitVec 32 := Scalar.muli arg17 c16_i32_2839
  let c12_i32 : BitVec 32 := 12#32
  let v8468 : BitVec 32 := Scalar.addi v8467 c12_i32
  let c64_i32_2840 : BitVec 32 := 64#32
  let v8469 : BitVec 32 := Scalar.muli v8468 c64_i32_2840
  v8469
def k0_mult26 (k0_t1 : Fin k0_t1_loop.trips) : BitVec 32 :=
  let c63_i32_2956 : BitVec 32 := 63#32
  let c0_i32_32 : BitVec 32 := 0#32
  let c1_i32_33 : BitVec 32 := 1#32
  let arg17 : BitVec 32 := Scf.iv c0_i32_32 c1_i32_33 k0_t1
  let c16_i32_2839 : BitVec 32 := 16#32
  let v8467 : BitVec 32 := Scalar.muli arg17 c16_i32_2839
  let c12_i32 : BitVec 32 := 12#32
  let v8468 : BitVec 32 := Scalar.addi v8467 c12_i32
  let v8817 : BitVec 32 := Scalar.subi c63_i32_2956 v8468
  let c64_i32_2957 : BitVec 32 := 64#32
  let v8818 : BitVec 32 := Scalar.muli v8817 c64_i32_2957
  v8818
def k0_mult27 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_3073 : BitVec 32 := 16#32
  let v9166 : BitVec 32 := Scalar.muli arg17 c16_i32_3073
  let c13_i32 : BitVec 32 := 13#32
  let v9167 : BitVec 32 := Scalar.addi v9166 c13_i32
  let c64_i32_3074 : BitVec 32 := 64#32
  let v9168 : BitVec 32 := Scalar.muli v9167 c64_i32_3074
  v9168
def k0_mult28 (k0_t1 : Fin k0_t1_loop.trips) : BitVec 32 :=
  let c63_i32_3190 : BitVec 32 := 63#32
  let c0_i32_32 : BitVec 32 := 0#32
  let c1_i32_33 : BitVec 32 := 1#32
  let arg17 : BitVec 32 := Scf.iv c0_i32_32 c1_i32_33 k0_t1
  let c16_i32_3073 : BitVec 32 := 16#32
  let v9166 : BitVec 32 := Scalar.muli arg17 c16_i32_3073
  let c13_i32 : BitVec 32 := 13#32
  let v9167 : BitVec 32 := Scalar.addi v9166 c13_i32
  let v9516 : BitVec 32 := Scalar.subi c63_i32_3190 v9167
  let c64_i32_3191 : BitVec 32 := 64#32
  let v9517 : BitVec 32 := Scalar.muli v9516 c64_i32_3191
  v9517
def k0_mult29 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_3307 : BitVec 32 := 16#32
  let v9865 : BitVec 32 := Scalar.muli arg17 c16_i32_3307
  let c14_i32 : BitVec 32 := 14#32
  let v9866 : BitVec 32 := Scalar.addi v9865 c14_i32
  let c64_i32_3308 : BitVec 32 := 64#32
  let v9867 : BitVec 32 := Scalar.muli v9866 c64_i32_3308
  v9867
def k0_mult30 (k0_t1 : Fin k0_t1_loop.trips) : BitVec 32 :=
  let c63_i32_3424 : BitVec 32 := 63#32
  let c0_i32_32 : BitVec 32 := 0#32
  let c1_i32_33 : BitVec 32 := 1#32
  let arg17 : BitVec 32 := Scf.iv c0_i32_32 c1_i32_33 k0_t1
  let c16_i32_3307 : BitVec 32 := 16#32
  let v9865 : BitVec 32 := Scalar.muli arg17 c16_i32_3307
  let c14_i32 : BitVec 32 := 14#32
  let v9866 : BitVec 32 := Scalar.addi v9865 c14_i32
  let v10215 : BitVec 32 := Scalar.subi c63_i32_3424 v9866
  let c64_i32_3425 : BitVec 32 := 64#32
  let v10216 : BitVec 32 := Scalar.muli v10215 c64_i32_3425
  v10216
def k0_mult31 (k0_t1 : Fin k0_t1_loop.trips) : BitVec 32 :=
  let c0_i32_32 : BitVec 32 := 0#32
  let c1_i32_33 : BitVec 32 := 1#32
  let arg17 : BitVec 32 := Scf.iv c0_i32_32 c1_i32_33 k0_t1
  let c16_i32_3541 : BitVec 32 := 16#32
  let v10564 : BitVec 32 := Scalar.muli arg17 c16_i32_3541
  let c15_i32 : BitVec 32 := 15#32
  let v10565 : BitVec 32 := Scalar.addi v10564 c15_i32
  let c64_i32_3542 : BitVec 32 := 64#32
  let v10566 : BitVec 32 := Scalar.muli v10565 c64_i32_3542
  v10566
def k0_mult32 (k0_t1 : Fin k0_t1_loop.trips) : BitVec 32 :=
  let c63_i32_3658 : BitVec 32 := 63#32
  let c0_i32_32 : BitVec 32 := 0#32
  let c1_i32_33 : BitVec 32 := 1#32
  let arg17 : BitVec 32 := Scf.iv c0_i32_32 c1_i32_33 k0_t1
  let c16_i32_3541 : BitVec 32 := 16#32
  let v10564 : BitVec 32 := Scalar.muli arg17 c16_i32_3541
  let c15_i32 : BitVec 32 := 15#32
  let v10565 : BitVec 32 := Scalar.addi v10564 c15_i32
  let v10914 : BitVec 32 := Scalar.subi c63_i32_3658 v10565
  let c64_i32_3659 : BitVec 32 := 64#32
  let v10915 : BitVec 32 := Scalar.muli v10914 c64_i32_3659
  v10915
def k0_off3 (k0_t1 : Fin k0_t1_loop.trips) (c0_i32_39 : BitVec 32) : Fin 2 → Nat :=
  let c0_i32_32 : BitVec 32 := 0#32
  let c1_i32_33 : BitVec 32 := 1#32
  let arg17 : BitVec 32 := Scf.iv c0_i32_32 c1_i32_33 k0_t1
  let c16_i32 : BitVec 32 := 16#32
  let v79 : BitVec 32 := Scalar.muli arg17 c16_i32
  let v80 : BitVec 32 := Scalar.addi v79 c0_i32_39
  let c64_i32 : BitVec 32 := 64#32
  let v81 : BitVec 32 := Scalar.muli v80 c64_i32
  let v82 : BitVec 32 := v81
  let v12204 : Index := Scalar.indexCast v82
  let c0_4010 : Index := 0#32
  ![v12204.toNat, 0]
def k0_off4 (k0_t1 : Fin k0_t1_loop.trips) (c0_i32_39 : BitVec 32) : Fin 2 → Nat :=
  let c63_i32 : BitVec 32 := 63#32
  let c0_i32_32 : BitVec 32 := 0#32
  let c1_i32_33 : BitVec 32 := 1#32
  let arg17 : BitVec 32 := Scf.iv c0_i32_32 c1_i32_33 k0_t1
  let c16_i32 : BitVec 32 := 16#32
  let v79 : BitVec 32 := Scalar.muli arg17 c16_i32
  let v80 : BitVec 32 := Scalar.addi v79 c0_i32_39
  let v429 : BitVec 32 := Scalar.subi c63_i32 v80
  let c64_i32_146 : BitVec 32 := 64#32
  let v430 : BitVec 32 := Scalar.muli v429 c64_i32_146
  let v431 : BitVec 32 := v430
  let v12214 : Index := Scalar.indexCast v431
  let c0_4012 : Index := 0#32
  ![v12214.toNat, 0]
@[reducible] def k0_t2_loop : Scf.Loop 32 :=
  let c0_i32_35 : BitVec 32 := 0#32
  let c8_i32_36 : BitVec 32 := 8#32
  let v78 : BitVec 32 := Scalar.addi c0_i32_35 c8_i32_36
  let c1_i32_37 : BitVec 32 := 1#32
  ⟨c0_i32_35, v78, c1_i32_37⟩
def k0_mult33 (k0_t2 : Fin k0_t2_loop.trips) : BitVec 32 :=
  let c0_i32_35 : BitVec 32 := 0#32
  let c1_i32_37 : BitVec 32 := 1#32
  let arg17 : BitVec 32 := Scf.iv c0_i32_35 c1_i32_37 k0_t2
  let c512_i32 : BitVec 32 := 512#32
  let v79 : BitVec 32 := Scalar.muli arg17 c512_i32
  v79
def k0_off5 (k0_t2 : Fin k0_t2_loop.trips) : Fin 2 → Nat :=
  let c0_i32_35 : BitVec 32 := 0#32
  let c1_i32_37 : BitVec 32 := 1#32
  let arg17 : BitVec 32 := Scf.iv c0_i32_35 c1_i32_37 k0_t2
  let c512_i32 : BitVec 32 := 512#32
  let v79 : BitVec 32 := Scalar.muli arg17 c512_i32
  let v80 : BitVec 32 := v79
  let v81 : Index := Scalar.indexCast v80
  let c0_39 : Index := 0#32
  ![v81.toNat, 0]
def k0_off6 (k0_t2 : Fin k0_t2_loop.trips) : Fin 3 → Nat :=
  let c0_46 : Index := 0#32
  let c0_i32_35 : BitVec 32 := 0#32
  let c1_i32_37 : BitVec 32 := 1#32
  let arg17 : BitVec 32 := Scf.iv c0_i32_35 c1_i32_37 k0_t2
  let c512_i32 : BitVec 32 := 512#32
  let v79 : BitVec 32 := Scalar.muli arg17 c512_i32
  let v80 : BitVec 32 := v79
  let v100 : Index := Scalar.indexCast v80
  let c0_47 : Index := 0#32
  ![0, v100.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proof.Halo.lean ====
/- A store of rows with two of them stored again: what a load of its middle rows reads. -/
module

public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Halo

variable {sig : RefSig} {κ : Kind} {sp : Space} {e : EltTy}

/-- The rows' shapes: a tile with 16 rows before and after it, its middle rows, and one row. -/
abbrev Wide : Shape := ⟨2, ![1056, 512]⟩
abbrev Mid : Shape := ⟨2, ![1040, 512]⟩
abbrev Row : Shape := ⟨2, ![1, 512]⟩

/-- One row of the store, all of it, and its middle rows. -/
abbrev rowR (o : ℕ) (inb : ∀ a, (![o, 0] : Fin 2 → ℕ) a + (![1, 512] : Fin 2 → ℕ) a ≤ Wide.size a) : Rect Wide := Rect.unit ![o, 0] ![1, 512] inb
abbrev allR (inb : ∀ a, (![0, 0] : Fin 2 → ℕ) a + (![1056, 512] : Fin 2 → ℕ) a ≤ Wide.size a) : Rect Wide := Rect.unit ![0, 0] ![1056, 512] inb
abbrev midR (inb : ∀ a, (![8, 0] : Fin 2 → ℕ) a + (![1040, 512] : Fin 2 → ℕ) a ≤ Wide.size a) : Rect Wide := Rect.unit ![8, 0] ![1040, 512] inb

/-- The last store of one row: that row is the store's, the others are what was there. -/
theorem canon_row (o : ℕ) (inb) (w : (rowR o inb).shape.Idx → Elt Ideal e) (L : List (View.Piece (Elt Ideal) Wide e)) (y : Wide.Idx) :
    View.canon (⟨rowR o inb, w⟩ :: L) y = if (y 0).val = o then w (ix2 0 (y 1) : Row.Idx) else View.canon L y := by
  by_cases h : (y 0).val = o
  · rw [if_pos h]
    have hy : (rowR o inb).emb (ix2 0 (y 1) : Row.Idx) = y := by
      funext a
      apply Fin.ext
      fin_cases a
      · change o + 1 * 0 = (y 0).val
        omega
      · change 0 + 1 * (y 1).val = (y 1).val
        omega
    have hw := View.canon_cons_emb (rowR o inb) w L (ix2 0 (y 1) : Row.Idx)
    rw [hy] at hw
    exact hw
  · rw [if_neg h]
    refine View.canon_cons_of_not_mem _ L fun hm => h ?_
    obtain ⟨x, hx⟩ := LoadRect.exists_idx_of_mem _ hm
    have h0 : o + 1 * (x 0).val = (y 0).val := congrArg (fun i : Wide.Idx => (i 0).val) hx
    have h1 : (x 0).val < 1 := (x 0).isLt
    omega

/-- A store of everything leaves what it stores. -/
theorem canon_all (inb) (u : (allR inb).shape.Idx → Elt Ideal e) (L : List (View.Piece (Elt Ideal) Wide e)) (y : Wide.Idx) :
    View.canon (⟨allR inb, u⟩ :: L) y = u y := by
  have hy : (allR inb).emb y = y := by
    funext a
    apply Fin.ext
    fin_cases a
    · change 0 + 1 * (y 0).val = (y 0).val
      omega
    · change 0 + 1 * (y 1).val = (y 1).val
      omega
  have hw := View.canon_cons_emb (allR inb) u L y
  rw [hy] at hw
  exact hw

variable (v : View sig κ sp Wide .f32)

/-- Row 15 as first stored, -/
theorem read_15 (inb inb') (u : FVec Ideal Wide .f32) :
    v.readCov [(⟨allR inb, u⟩ : View.Piece (Elt Ideal) Wide .f32)] (rowR 15 inb').toLoadRect = fun j : Row.Idx => u (ix2 15 (j 1)) := by
  rw [View.readCov_eq_canon']
  funext j
  refine (canon_all (e := .f32) inb u [] _).trans (congrArg u (funext fun a => Fin.ext ?_))
  fin_cases a
  · have h1 : (j 0).val < 1 := (j 0).isLt
    change 15 + 1 * (j 0).val = 15
    omega
  · change 0 + 1 * (j 1).val = (j 1).val
    omega

/-- row 1040 once row 15 is stored again, -/
theorem read_1040 (inb inb' inb'') (u : FVec Ideal Wide .f32) (p : FVec Ideal Row .f32) :
    v.readCov [(⟨rowR 15 inb'', p⟩ : View.Piece (Elt Ideal) Wide .f32), ⟨allR inb, u⟩] (rowR 1040 inb').toLoadRect
      = fun j : Row.Idx => u (ix2 1040 (j 1)) := by
  rw [View.readCov_eq_canon']
  funext j
  have h1 : (j 0).val < 1 := (j 0).isLt
  refine (canon_row (e := .f32) 15 inb'' p _ _).trans ((if_neg ?_).trans ((canon_all (e := .f32) inb u [] _).trans (congrArg u (funext fun a => Fin.ext ?_))))
  · change ¬1040 + 1 * (j 0).val = 15
    omega
  fin_cases a
  · change 1040 + 1 * (j 0).val = 1040
    omega
  · change 0 + 1 * (j 1).val = (j 1).val
    omega

/-- The middle rows: row 15 of the store is `p`, row 1040 is `q`. -/
def seg (u : FVec Ideal Wide .f32) (p q : FVec Ideal Row .f32) : FVec Ideal Mid .f32 := fun j =>
  if (j 0).val = 1032 then q (ix2 0 (j 1)) else if (j 0).val = 7 then p (ix2 0 (j 1))
  else u (ix2 ⟨8 + (j 0).val, by have : (j 0).val < 1040 := (j 0).isLt; omega⟩ (j 1))

/-- and the middle rows once both are. -/
theorem read_mid (inb ib15 ib1040 inb') (u : FVec Ideal Wide .f32) (p q : FVec Ideal Row .f32) :
    v.readCov [(⟨rowR 1040 ib1040, q⟩ : View.Piece (Elt Ideal) Wide .f32), ⟨rowR 15 ib15, p⟩, ⟨allR inb, u⟩] (midR inb').toLoadRect = seg u p q := by
  rw [View.readCov_eq_canon']
  funext j
  have e0 : (((midR inb').toLoadRect.idx j) 0).val = 8 + 1 * (j 0).val := rfl
  have e1 : ((midR inb').toLoadRect.idx j) 1 = j 1 := Fin.ext (by change 0 + 1 * (j 1).val = (j 1).val; omega)
  refine (canon_row (e := .f32) 1040 ib1040 q _ _).trans ?_
  rw [canon_row (e := .f32) 15 ib15 p, canon_all (e := .f32) inb u, e0, e1]
  unfold seg
  refine if_congr (by omega) rfl (if_congr (by omega) rfl (congrArg u (funext fun a => Fin.ext ?_)))
  fin_cases a
  · change 8 + 1 * (j 0).val = 8 + (j 0).val
    omega
  · change 0 + 1 * (j 1).val = (j 1).val
    omega

/-- One tile's rows of the store, without the rows around it. -/
abbrev Own : Shape := ⟨2, ![1024, 512]⟩
abbrev ownR (inb : ∀ a, (![16, 0] : Fin 2 → ℕ) a + (![1024, 512] : Fin 2 → ℕ) a ≤ Wide.size a) : Rect Wide := Rect.unit ![16, 0] ![1024, 512] inb

/-- They are as first stored. -/
theorem read_own (inb ib15 ib1040 inb') (u : FVec Ideal Wide .f32) (p q : FVec Ideal Row .f32) :
    v.readCov [(⟨rowR 1040 ib1040, q⟩ : View.Piece (Elt Ideal) Wide .f32), ⟨rowR 15 ib15, p⟩, ⟨allR inb, u⟩] (ownR inb').toLoadRect
      = fun j : Own.Idx => u (ix2 ⟨16 + (j 0).val, by have : (j 0).val < 1024 := (j 0).isLt; omega⟩ (j 1)) := by
  rw [View.readCov_eq_canon']
  funext j
  have hj : (j 0).val < 1024 := (j 0).isLt
  have e0 : (((ownR inb').toLoadRect.idx j) 0).val = 16 + 1 * (j 0).val := rfl
  refine (canon_row (e := .f32) 1040 ib1040 q _ _).trans ?_
  rw [canon_row (e := .f32) 15 ib15 p, canon_all (e := .f32) inb u, e0, if_neg (by omega), if_neg (by omega)]
  refine congrArg u (funext fun a => Fin.ext ?_)
  fin_cases a
  · change 16 + 1 * (j 0).val = 16 + (j 0).val
    omega
  · change 0 + 1 * (j 1).val = (j 1).val
    omega

end Cert.Halo

end
-- ==== Proof.FfnIn.lean ====
/- The convolution FFN's first projection, with its token convolution and gating: what the array holds after the run is the reference's result. -/
module

public import proofs.«01_k».proof.Proof.Gen.FfnInIdeal.Frame
public import proofs.«01_k».proof.Proof.Gen.FfnInRefIdeal.Run
public import proofs.«01_k».proof.Proof.Halo
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnInRefIdeal.Value

open Cert.FfnInRefIdeal Cert.FfnInRefIdeal.Gen

/-- The projection of both streams' tokens to both halves, with the first layer's weights. -/
def PROJ (h : FVec Ideal S8192x2048 .bf16) (w : FVec Ideal S4x2048x11264 .f32) : FVec Ideal S2x4096x11264 .f32 :=
  Host.dotGeneral dot_S2x4096x2048_S2048x11264_S2x4096x11264_2_0_01_1_n_n none (shapeCast _ (extf .f32 h bitsLt_bf16_f32) shapeCasts_S8192x2048_S2x4096x2048) (shapeCast _ (extractStridedSlice S1x2048x11264 ![0, 0, 0] w slices_S4x2048x11264_S1x2048x11264_0_0_0) shapeCasts_S1x2048x11264_S2048x11264)

/-- The projection with a row of zeros before and after each stream. -/
def PADDED (u : FVec Ideal S2x4096x11264 .f32) : FVec Ideal S2x4098x11264 .f32 :=
  pad S2x4098x11264 ![0, 1, 0] ![0, 1, 0] ![0, 0, 0] u (sitofp .f32 (constantI S_ 32 0#32)) pads_S2x4096x11264_S2x4098x11264_000_110_000 h_S_

/-- One tap's weights at every token: row `k` of the first layer's. -/
def TAP (k : ℕ) (hk : S3x11264.Slices ![k, 0] S1x11264) (f : FVec Ideal S4x3x11264 .f32) : FVec Ideal S2x4096x11264 .f32 :=
  broadcastInDim S2x4096x11264 ![0, 1, 2] bcast_S1x1x11264_S2x4096x11264_0_1_2 (broadcastInDim S1x1x11264 ![2] bcast_S11264_S1x1x11264_2 (shapeCast _ (extractStridedSlice S1x11264 ![k, 0] (shapeCast _ (extractStridedSlice S1x3x11264 ![0, 0, 0] f slices_S4x3x11264_S1x3x11264_0_0_0) shapeCasts_S1x3x11264_S3x11264) hk) shapeCasts_S1x11264_S11264))

/-- The three-tap convolution along the tokens of each stream. -/
def CONV (u : FVec Ideal S2x4096x11264 .f32) (f : FVec Ideal S4x3x11264 .f32) : FVec Ideal S2x4096x11264 .f32 :=
  addf (addf (mulf (TAP 0 slices_S3x11264_S1x11264_0_0 f) (extractStridedSlice S2x4096x11264 ![0, 0, 0] (PADDED u) slices_S2x4098x11264_S2x4096x11264_0_0_0))
    (mulf (TAP 1 slices_S3x11264_S1x11264_1_0 f) (extractStridedSlice S2x4096x11264 ![0, 1, 0] (PADDED u) slices_S2x4098x11264_S2x4096x11264_0_1_0)))
    (mulf (TAP 2 slices_S3x11264_S1x11264_2_0 f) (extractStridedSlice S2x4096x11264 ![0, 2, 0] (PADDED u) slices_S2x4098x11264_S2x4096x11264_0_2_0))

/-- The gate: the first half times its logistic. -/
def SILU (z : FVec Ideal S2x4096x5632 .f32) : FVec Ideal S2x4096x5632 .f32 :=
  mulf z (Host.divf (broadcastInDim S2x4096x5632 ![] bcast_S_S2x4096x5632 (constant S_ .f32 0x3F800000#32)) (addf (broadcastInDim S2x4096x5632 ![] bcast_S_S2x4096x5632 (constant S_ .f32 0x3F800000#32)) (Host.exp (Host.negf z))))

/-- The reference's result. -/
def REF (h : FVec Ideal S8192x2048 .bf16) (w : FVec Ideal S4x2048x11264 .f32) (f : FVec Ideal S4x3x11264 .f32) : FVec Ideal S8192x5632 .bf16 :=
  truncf .bf16 (shapeCast _ (mulf
    (SILU (extractStridedSlice S2x4096x5632 ![0, 0, 0] (CONV (PROJ h w) f) slices_S2x4096x11264_S2x4096x5632_0_0_0))
    (extractStridedSlice S2x4096x5632 ![0, 0, 5632] (CONV (PROJ h w) f) slices_S2x4096x11264_S2x4096x5632_0_0_5632)) shapeCasts_S2x4096x5632_S8192x5632) bitsLt_bf16_f32

theorem res_eq (m : (ℓ : Loc nD τ sig) → Buf (Elt Ideal) ℓ) (c : Dev nD) :
    res_main_v33 m c = REF (m ((c.tc : Thread nD τ).loc main_arg0)) (m ((c.tc : Thread nD τ).loc main_arg1)) (m ((c.tc : Thread nD τ).loc main_arg2)) := rfl

end Cert.FfnInRefIdeal.Value

namespace Cert.FfnInIdeal.Value

open Cert.FfnInIdeal Cert.FfnInIdeal.Gen
open Cert.FfnInRefIdeal.Value (PROJ PADDED TAP CONV SILU REF)

variable (m : (ℓ : Loc nD τ sig) → Buf (Elt Ideal) ℓ)

/-- Which block each window has at a grid point: the halves' columns move with the slow coordinate, the rows with the fast one, and the rows'
    neighbours are the 16 rows before and after, kept inside the array. -/
theorem idx_val : ∀ t : Fin cfg0.N, win0_0.index t = ![t.val % 8 * 64 - 1, 0] ∧ win0_1.index t = ![t.val % 8, 0]
    ∧ win0_2.index t = ![min (t.val % 8 * 64 + 64) 511, 0] ∧ win0_3.index t = ![0, 0, t.val / 8] ∧ win0_4.index t = ![0, 0, t.val / 8 + 11]
    ∧ win0_5.index t = ![0, 0, t.val / 8] ∧ win0_6.index t = ![0, 0, t.val / 8 + 11] ∧ win0_7.index t = ![t.val % 8, t.val / 8] :=
  (by decide +kernel : ∀ t : Fin grid0.N, _)

open Cert.Halo (read_15 read_1040 read_mid seg)

theorem coord_val : ∀ t : Fin cfg0.N, ((grid0.coords t) 1).val = t.val % 8 :=
  (by decide +kernel : ∀ t : Fin grid0.N, _)

/-- The row before a tile is kept where the tile doesn't begin a stream, -/
theorem keep_prev (t : Fin cfg0.N) : k0_pay4 (F := Ideal) (grid0.coords t) = if t.val % 8 % 4 = 0 then 0 else 1 := by
  have h8 : t.val % 8 < 8 := Nat.mod_lt _ (by omega)
  unfold k0_pay4
  simp only [coord_val t]
  generalize t.val % 8 = n at h8
  interval_cases n <;> refine (Ideal.scalar_sitofp_def (φ := .f32) _).trans ?_
  all_goals first
    | (refine (congrArg (fun z : ℤ => ((z : ℝ) : EReal)) (?_ : _ = (0 : ℤ))).trans (by simp); decide)
    | (refine (congrArg (fun z : ℤ => ((z : ℝ) : EReal)) (?_ : _ = (1 : ℤ))).trans (by simp); decide)

/-- and the row after it where it doesn't end one. -/
theorem keep_next (t : Fin cfg0.N) : k0_pay5 (F := Ideal) (grid0.coords t) = if t.val % 8 % 4 = 3 then 0 else 1 := by
  have h8 : t.val % 8 < 8 := Nat.mod_lt _ (by omega)
  unfold k0_pay5
  simp only [coord_val t]
  generalize t.val % 8 = n at h8
  interval_cases n <;> refine (Ideal.scalar_sitofp_def (φ := .f32) _).trans ?_
  all_goals first
    | (refine (congrArg (fun z : ℤ => ((z : ℝ) : EReal)) (?_ : _ = (0 : ℤ))).trans (by simp); decide)
    | (refine (congrArg (fun z : ℤ => ((z : ℝ) : EReal)) (?_ : _ = (1 : ℤ))).trans (by simp); decide)

section Rows

variable (x1 : FVec Ideal S1024x2048 .bf16) (x0 x2 : FVec Ideal S16x2048 .bf16) (W : FVec Ideal S2048x512 .bf16)

/-- The rows multiplied: the one before the tile, -/
theorem row_prev (j : Fin 2048) : k0_pay6 (F := Ideal) x1 x0 x2 (ix2 15 j) = x0 (ix2 15 j) := by
  pointwise [k0_pay6]

/-- the one after it, -/
theorem row_next (j : Fin 2048) : k0_pay6 (F := Ideal) x1 x0 x2 (ix2 1040 j) = x2 (ix2 0 j) := by
  pointwise [k0_pay6]

/-- and the tile's own. -/
theorem row_own (q : Fin 1056) (r : Fin 1024) (hq : q.val = 16 + r.val) (j : Fin 2048) : k0_pay6 (F := Ideal) x1 x0 x2 (ix2 q j) = x1 (ix2 r j) := by
  have hr := r.isLt
  pointwise [k0_pay6]
  rw [dif_pos (by omega), dif_neg (by omega)]
  exact congrArg x1 ((ix2_inj ..).2 ⟨Fin.ext (by simp only; omega), rfl⟩)

/-- A tile's convolved rows are the padded projection's, whatever the tile's place in its stream. -/
theorem meet (h : FVec Ideal S8192x2048 .bf16) (w : FVec Ideal S4x2048x11264 .f32) (i : ℕ) (hi : i < 8) (x : Fin 512) (n : Fin 11264)
    (h1 : ∀ (r : Fin 1024) (R : Fin 8192), R.val = 1024 * i + r.val → ∀ j, x1 (ix2 r j) = h (ix2 R j))
    (h0 : i % 4 ≠ 0 → ∀ R : Fin 8192, R.val + 1 = 1024 * i → ∀ j, x0 (ix2 15 j) = h (ix2 R j))
    (h2 : i % 4 ≠ 3 → ∀ R : Fin 8192, R.val = 1024 * i + 1024 → ∀ j, x2 (ix2 0 j) = h (ix2 R j))
    (hW : ∀ j : Fin 2048, W (ix2 j x) = w (ix3 0 j n)) (r d : ℕ) (hr : r < 1024) (hd : d < 3) (k : Fin 1040) (hk : k.val = 7 + r + d)
    (s : Fin 2) (hs : s.val = (1024 * i + r) / 4096) (p : Fin 4098) (hp : p.val = (1024 * i + r) % 4096 + d) :
    seg (k0_pay9 (k0_pay7 (F := Ideal) x1 x0 x2 W))
        (k0_pay10 (F := Ideal) (if i % 4 = 0 then (0 : EReal) else 1) fun j => k0_pay9 (k0_pay7 (F := Ideal) x1 x0 x2 W) (ix2 15 (j 1)))
        (k0_pay11 (F := Ideal) (if i % 4 = 3 then (0 : EReal) else 1) fun j => k0_pay9 (k0_pay7 (F := Ideal) x1 x0 x2 W) (ix2 1040 (j 1))) (ix2 k x)
      = PADDED (PROJ h w) (ix3 s p n) := by
  have hu : ∀ q : Fin 1056, k0_pay9 (k0_pay7 (F := Ideal) x1 x0 x2 W) (ix2 q x) = ∑ j : Fin 2048, k0_pay6 (F := Ideal) x1 x0 x2 (ix2 q j) * w (ix3 0 j n) := by
    intro q
    pointwise [k0_pay9, k0_pay7]
    exact Finset.sum_congr rfl fun j _ => by rw [hW j]
  have hz : (FloatOps.sitofp FTy.f32 0#32 : Ideal .f32) = 0 := by
    refine (congrArg (fun z : ℤ => ((z : ℝ) : EReal)) (?_ : _ = (0 : ℤ))).trans (by simp)
    decide
  pointwise [PADDED, PROJ]
  unfold seg
  rw [hz]
  have e0 : ((ix2 k x : Cert.Halo.Mid.Idx) 0).val = k.val := rfl
  by_cases c1 : k.val = 1032
  · rw [if_pos (e0.trans c1)]
    pointwise [k0_pay11]
    by_cases c3 : i % 4 = 3
    · rw [if_pos c3, mul_zero, dif_neg (by omega)]
    · rw [if_neg c3, mul_one, dif_pos (by omega), hu]
      exact Finset.sum_congr rfl fun j _ => by rw [row_next, h2 c3 ⟨s.val * 4096 + (p.val - 1), by omega⟩ (by simp only; omega)]
  rw [if_neg (by rw [e0]; exact c1)]
  by_cases c2 : k.val = 7
  · rw [if_pos (e0.trans c2)]
    pointwise [k0_pay10]
    by_cases c3 : i % 4 = 0
    · rw [if_pos c3, mul_zero, dif_neg (by omega)]
    · rw [if_neg c3, mul_one, dif_pos (by omega), hu]
      exact Finset.sum_congr rfl fun j _ => by rw [row_prev, h0 c3 ⟨s.val * 4096 + (p.val - 1), by omega⟩ (by simp only; omega)]
  · rw [if_neg (by rw [e0]; exact c2), dif_pos (by omega)]
    refine (hu ⟨8 + k.val, by omega⟩).trans (Finset.sum_congr rfl fun j _ => ?_)
    rw [row_own x1 x0 x2 _ ⟨r + d - 1, by omega⟩ (by simp only; omega), h1 _ ⟨s.val * 4096 + (p.val - 1), by omega⟩ (by simp only; omega)]

end Rows

/-- One element of a tile from its convolved rows' elements: both halves' three taps, and the gating. -/
theorem pure_eq (s1 s2 : FVec Ideal S1040x512 .f32) (f0 f1 f2 g0 g1 g2 : FVec Ideal S1x1x512 .f32) (h : FVec Ideal S8192x2048 .bf16)
    (w : FVec Ideal S4x2048x11264 .f32) (f : FVec Ideal S4x3x11264 .f32) (r : Fin 1024) (x : Fin 512) (R : Fin 8192) (o : Fin 5632)
    (hs1 : ∀ d < 3, ∀ k : Fin 1040, k.val = 7 + r.val + d → ∀ (s : Fin 2) (p : Fin 4098) (n : Fin 11264), s.val = R.val / 4096 →
      p.val = R.val % 4096 + d → n.val = o.val → s1 (ix2 k x) = PADDED (PROJ h w) (ix3 s p n))
    (hs2 : ∀ d < 3, ∀ k : Fin 1040, k.val = 7 + r.val + d → ∀ (s : Fin 2) (p : Fin 4098) (n : Fin 11264), s.val = R.val / 4096 →
      p.val = R.val % 4096 + d → n.val = 5632 + o.val → s2 (ix2 k x) = PADDED (PROJ h w) (ix3 s p n))
    (hf0 : ∀ n : Fin 11264, n.val = o.val → f0 (ix3 0 0 x) = f (ix3 0 0 n))
    (hf1 : ∀ n : Fin 11264, n.val = o.val → f1 (ix3 0 0 x) = f (ix3 0 1 n))
    (hf2 : ∀ n : Fin 11264, n.val = o.val → f2 (ix3 0 0 x) = f (ix3 0 2 n))
    (hg0 : ∀ n : Fin 11264, n.val = 5632 + o.val → g0 (ix3 0 0 x) = f (ix3 0 0 n))
    (hg1 : ∀ n : Fin 11264, n.val = 5632 + o.val → g1 (ix3 0 0 x) = f (ix3 0 1 n))
    (hg2 : ∀ n : Fin 11264, n.val = 5632 + o.val → g2 (ix3 0 0 x) = f (ix3 0 2 n)) :
    k0_pay1 (F := Ideal) (k0_pay16 s1 (k0_pay15 s1) f0 f1 f2) s2 (k0_pay17 s2) (k0_pay18 s2 g0) (k0_pay19 g1) g2 (ix2 r x) = REF h w f (ix2 R o) := by
  have hr := r.isLt
  have hR := R.isLt
  have ho := o.isLt
  pointwise [k0_pay1, k0_pay15, k0_pay16, k0_pay17, k0_pay18, k0_pay19, REF, SILU, CONV, TAP, zero_sub]
  have lo : o.val < 11264 := by omega
  have up : 5632 + o.val < 11264 := by omega
  have e0 : (8 + r.val + 1040 - 1) % 1040 = 7 + r.val + 0 := by omega
  have e1 : 8 + r.val = 7 + r.val + 1 := by omega
  have e2 : (8 + r.val + 1040 - 1039) % 1040 = 7 + r.val + 2 := by omega
  have a0 := hs1 0 (by omega) ⟨(8 + r.val + 1040 - 1) % 1040, by omega⟩ e0 ⟨R.val / 4096, by omega⟩ ⟨R.val % 4096, by omega⟩ ⟨o.val, lo⟩ rfl (by simp only; omega) rfl
  have a1 := hs1 1 (by omega) ⟨8 + r.val, by omega⟩ e1 ⟨R.val / 4096, by omega⟩ ⟨1 + R.val % 4096, by omega⟩ ⟨o.val, lo⟩ rfl (by simp only; omega) rfl
  have a2 := hs1 2 (by omega) ⟨(8 + r.val + 1040 - 1039) % 1040, by omega⟩ e2 ⟨R.val / 4096, by omega⟩ ⟨2 + R.val % 4096, by omega⟩ ⟨o.val, lo⟩ rfl (by simp only; omega) rfl
  have b0 := hs2 0 (by omega) ⟨(8 + r.val + 1040 - 1) % 1040, by omega⟩ e0 ⟨R.val / 4096, by omega⟩ ⟨R.val % 4096, by omega⟩ ⟨5632 + o.val, up⟩ rfl (by simp only; omega) rfl
  have b1 := hs2 1 (by omega) ⟨8 + r.val, by omega⟩ e1 ⟨R.val / 4096, by omega⟩ ⟨1 + R.val % 4096, by omega⟩ ⟨5632 + o.val, up⟩ rfl (by simp only; omega) rfl
  have b2 := hs2 2 (by omega) ⟨(8 + r.val + 1040 - 1039) % 1040, by omega⟩ e2 ⟨R.val / 4096, by omega⟩ ⟨2 + R.val % 4096, by omega⟩ ⟨5632 + o.val, up⟩ rfl (by simp only; omega) rfl
  simp only [a0, a1, a2, b0, b1, b2, hf0 ⟨o.val, lo⟩ rfl, hf1 ⟨o.val, lo⟩ rfl, hf2 ⟨o.val, lo⟩ rfl, hg0 ⟨5632 + o.val, up⟩ rfl,
    hg1 ⟨5632 + o.val, up⟩ rfl, hg2 ⟨5632 + o.val, up⟩ rfl]

section Blocks

variable (c : Dev nD) (t : Fin cfg0.N)

theorem blk_own (r : Fin 1024) (R : Fin 8192) (hR : R.val = 1024 * (t.val % 8) + r.val) (j : Fin 2048) :
    iblk m c 1 t (ix2 r j) = m ((c : Thread nD τ).loc main_arg0) (ix2 R j) := by
  blk_ext [iblk, V, idx_val t, hR]

theorem blk_prev (hc : t.val % 8 % 4 ≠ 0) (R : Fin 8192) (hR : R.val + 1 = 1024 * (t.val % 8)) (j : Fin 2048) :
    iblk m c 0 t (ix2 15 j) = m ((c : Thread nD τ).loc main_arg0) (ix2 R j) := by
  blk_ext [iblk, V, idx_val t, hR]

theorem blk_next (hc : t.val % 8 % 4 ≠ 3) (R : Fin 8192) (hR : R.val = 1024 * (t.val % 8) + 1024) (j : Fin 2048) :
    iblk m c 2 t (ix2 0 j) = m ((c : Thread nD τ).loc main_arg0) (ix2 R j) := by
  blk_ext [iblk, V, idx_val t, hR]

theorem blk_gate (x : Fin 512) (n : Fin 11264) (hn : n.val = t.val / 8 * 512 + x.val) (j : Fin 2048) :
    k0_pay2 (F := Ideal) (iblk m c 3 t) (ix2 j x) = m ((c : Thread nD τ).loc main_arg1) (ix3 0 j n) := by
  pointwise [k0_pay2]
  blk_ext [iblk, V, idx_val t, hn]

theorem blk_val (x : Fin 512) (n : Fin 11264) (hn : n.val = 5632 + (t.val / 8 * 512 + x.val)) (j : Fin 2048) :
    k0_pay3 (F := Ideal) (iblk m c 4 t) (ix2 j x) = m ((c : Thread nD τ).loc main_arg1) (ix3 0 j n) := by
  pointwise [k0_pay3]
  blk_ext [iblk, V, idx_val t, hn]

theorem tap_gate (d : Fin 3) (x : Fin 512) (n : Fin 11264) (hn : n.val = t.val / 8 * 512 + x.val) :
    iblk m c 5 t (ix3 0 d x) = m ((c : Thread nD τ).loc main_arg2) (ix3 0 d n) := by
  blk_ext [iblk, V, idx_val t, hn]

theorem tap_val (d : Fin 3) (x : Fin 512) (n : Fin 11264) (hn : n.val = 5632 + (t.val / 8 * 512 + x.val)) :
    iblk m c 6 t (ix3 0 d x) = m ((c : Thread nD τ).loc main_arg2) (ix3 0 d n) := by
  blk_ext [iblk, V, idx_val t, hn]

end Blocks

/-- A half's weights are the same at two grid points of one column of tiles, -/
theorem wblk_eq3 (c : Dev nD) (t t' : Fin cfg0.N) (h : t.val / 8 = t'.val / 8) : iblk m c 3 t = iblk m c 3 t' := by
  funext y
  blk_ext [iblk, V, idx_val t, idx_val t', h]

theorem wblk_eq4 (c : Dev nD) (t t' : Fin cfg0.N) (h : t.val / 8 = t'.val / 8) : iblk m c 4 t = iblk m c 4 t' := by
  funext y
  blk_ext [iblk, V, idx_val t, idx_val t', h]

/-- and the first of them casts both halves' into the scratches, -/
theorem scratch_first (c : Dev nD) (t : Fin cfg0.N) (hc : t.val % 8 = 0) :
    (outsAt0 m c t.val t.isLt).2 = (k0_pay2 (iblk m c 3 t), k0_pay3 (iblk m c 4 t)) := by
  rw [outsAt0_A m c t hc hc]
  frame_out

/-- which then hold them. -/
theorem scratch (c : Dev nD) (n : ℕ) : ∀ t : Fin cfg0.N, t.val = n →
    (outsAt0 m c t.val t.isLt).2 = (k0_pay2 (iblk m c 3 t), k0_pay3 (iblk m c 4 t)) := by
  induction n with
  | zero => intro t ht; exact scratch_first m c t (by rw [ht])
  | succ n ih =>
    intro t ht
    by_cases hc : t.val % 8 = 0
    · exact scratch_first m c t hc
    · have e := ih ⟨t.val - 1, Nat.lt_of_le_of_lt (Nat.sub_le _ _) t.isLt⟩ (by simp only; omega)
      rw [wblk_eq3 m c _ t (by simp only; omega), wblk_eq4 m c _ t (by simp only; omega)] at e
      rw [outsAt0_B m c t hc hc]
      dsimp only [sout0_B_0, sout0_B_1]
      exact e

theorem scratch_before (c : Dev nD) (t : Fin cfg0.N) (hc : ¬t.val % 8 = 0) :
    (outsAt0 m c (t.val - 1) (Nat.lt_of_le_of_lt (Nat.sub_le _ _) t.isLt)).2 = (k0_pay2 (iblk m c 3 t), k0_pay3 (iblk m c 4 t)) := by
  have e := scratch m c _ ⟨t.val - 1, Nat.lt_of_le_of_lt (Nat.sub_le _ _) t.isLt⟩ rfl
  rw [wblk_eq3 m c _ t (by simp only; omega), wblk_eq4 m c _ t (by simp only; omega)] at e
  exact e

/-- The value half's payloads are the gate half's. -/
theorem half_eq (x1 : FVec Ideal S1024x2048 .bf16) (x0 x2 : FVec Ideal S16x2048 .bf16) (W : FVec Ideal S2048x512 .bf16) :
    k0_pay12 (k0_pay8 (F := Ideal) x1 x0 x2 W) = k0_pay9 (k0_pay7 x1 x0 x2 W) := rfl

/-- One element of a tile from its blocks and both halves' cast weights. -/
theorem tile_eq (c : Dev nD) (t : Fin cfg0.N) (y : S1024x512.Idx) (s1 s2 : FVec Ideal S1040x512 .f32) (W1 W2 : FVec Ideal S2048x512 .bf16)
    (hW1 : W1 = k0_pay2 (iblk m c 3 t)) (hW2 : W2 = k0_pay3 (iblk m c 4 t))
    (hs1 : s1 = seg (k0_pay9 (k0_pay7 (iblk m c 1 t) (iblk m c 0 t) (iblk m c 2 t) W1))
      (k0_pay10 (k0_pay4 (grid0.coords t)) fun j => k0_pay9 (k0_pay7 (iblk m c 1 t) (iblk m c 0 t) (iblk m c 2 t) W1) (ix2 15 (j 1)))
      (k0_pay11 (k0_pay5 (grid0.coords t)) fun j => k0_pay9 (k0_pay7 (iblk m c 1 t) (iblk m c 0 t) (iblk m c 2 t) W1) (ix2 1040 (j 1))))
    (hs2 : s2 = seg (k0_pay12 (k0_pay8 (iblk m c 1 t) (iblk m c 0 t) (iblk m c 2 t) W2))
      (k0_pay13 (k0_pay4 (grid0.coords t)) fun j => k0_pay12 (k0_pay8 (iblk m c 1 t) (iblk m c 0 t) (iblk m c 2 t) W2) (ix2 15 (j 1)))
      (k0_pay14 (k0_pay5 (grid0.coords t)) fun j => k0_pay12 (k0_pay8 (iblk m c 1 t) (iblk m c 0 t) (iblk m c 2 t) W2) (ix2 1040 (j 1)))) :
    k0_pay1 (F := Ideal) (k0_pay16 s1 (k0_pay15 s1) (View.ld (iblk m c 5 t) (Rect.unit ![0, 0, 0] ![1, 1, 512] inb_S1x3x512_S1x1x512_0_0_0))
        (View.ld (iblk m c 5 t) (Rect.unit ![0, 1, 0] ![1, 1, 512] inb_S1x3x512_S1x1x512_0_1_0))
        (View.ld (iblk m c 5 t) (Rect.unit ![0, 2, 0] ![1, 1, 512] inb_S1x3x512_S1x1x512_0_2_0))) s2 (k0_pay17 s2)
        (k0_pay18 s2 (View.ld (iblk m c 6 t) (Rect.unit ![0, 0, 0] ![1, 1, 512] inb_S1x3x512_S1x1x512_0_0_0)))
        (k0_pay19 (View.ld (iblk m c 6 t) (Rect.unit ![0, 1, 0] ![1, 1, 512] inb_S1x3x512_S1x1x512_0_1_0)))
        (View.ld (iblk m c 6 t) (Rect.unit ![0, 2, 0] ![1, 1, 512] inb_S1x3x512_S1x1x512_0_2_0)) y
      = REF (m ((c : Thread nD τ).loc main_arg0)) (m ((c : Thread nD τ).loc main_arg1)) (m ((c : Thread nD τ).loc main_arg2))
          (((cfg0.win 7).blk t).view.emb y) := by
  have hr : (y 0).val < 1024 := (y 0).isLt
  have hx : (y 1).val < 512 := (y 1).isLt
  have ht : t.val < 88 := lt_of_lt_of_eq t.isLt (show cfg0.N = 88 from N_0)
  have hemb : ((cfg0.win 7).blk t).view.emb y = ix2 (⟨1024 * (t.val % 8) + (y 0).val, by omega⟩ : Fin 8192) (⟨t.val / 8 * 512 + (y 1).val, by omega⟩ : Fin 5632) := by
    blk_ext [idx_val t]
  rw [hemb]
  conv_lhs => rw [eq_ix2 y]
  refine pure_eq s1 s2 _ _ _ _ _ _ _ _ _ (y 0) (y 1) _ _ ?_ ?_ ?_ ?_ ?_ ?_ ?_ ?_
  · intro d hd k hk s p n hs hp hn
    rw [hs1, keep_prev t, keep_next t]
    exact meet _ _ _ W1 _ _ (t.val % 8) (by omega) (y 1) n (blk_own m c t) (fun h R e j => blk_prev m c t h R e j) (fun h R e j => blk_next m c t h R e j)
      (by rw [hW1]; exact blk_gate m c t (y 1) n hn) (y 0).val d hr hd k hk s hs p hp
  · intro d hd k hk s p n hs hp hn
    rw [hs2, keep_prev t, keep_next t, half_eq]
    exact meet _ _ _ W2 _ _ (t.val % 8) (by omega) (y 1) n (blk_own m c t) (fun h R e j => blk_prev m c t h R e j) (fun h R e j => blk_next m c t h R e j)
      (by rw [hW2]; exact blk_val m c t (y 1) n hn) (y 0).val d hr hd k hk s hs p hp
  · intro n hn
    pointwise
    exact tap_gate m c t 0 (y 1) n hn
  · intro n hn
    pointwise
    exact tap_gate m c t 1 (y 1) n hn
  · intro n hn
    pointwise
    exact tap_gate m c t 2 (y 1) n hn
  · intro n hn
    pointwise
    exact tap_val m c t 0 (y 1) n hn
  · intro n hn
    pointwise
    exact tap_val m c t 1 (y 1) n hn
  · intro n hn
    pointwise
    exact tap_val m c t 2 (y 1) n hn

/-- What a grid point leaves in the output's block. -/
theorem point (c : Dev nD) (t : Fin cfg0.N) (y : S1024x512.Idx) : (outsAt0 m c t.val t.isLt).1 y
    = REF (m ((c : Thread nD τ).loc main_arg0)) (m ((c : Thread nD τ).loc main_arg1)) (m ((c : Thread nD τ).loc main_arg2))
        (((cfg0.win 7).blk t).view.emb y) := by
  by_cases hc : t.val % 8 = 0
  · rw [outsAt0_A m c t hc hc]
    frame_out
    simp only [read_15, read_1040, read_mid]
    exact tile_eq m c t y _ _ _ _ rfl rfl rfl rfl
  · rw [outsAt0_B m c t hc hc, scratch_before m c t hc]
    frame_out
    simp only [read_15, read_1040, read_mid]
    exact tile_eq m c t y _ _ _ _ ((Memref.isWhole_whole cc0_scratch0).read_unread _) ((Memref.isWhole_whole cc0_scratch1).read_unread _) rfl rfl

/-- The array after the run is the reference's result. -/
theorem final (c : Dev nD) : (dats m 0 c).arrAt 7 (cfgs 0).N
    = REF (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  exact point m c t y

/-- The run: the result's array is the reference's, and the arguments are as they were. -/
theorem run_value (ρ : Dev nD → PrngReg) : θ_run defs (onTc (τ := τ) (main (F := Ideal))) ⟨m, fun _ => 0, ρ⟩ fun r => ∀ c : Dev nD,
    r.2.mem ((c : Thread nD τ).loc main_v0)
      = REF (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).1 7).trans (final m c),
    ((h c).1 0).trans (((dats m 0 c).arrAt_in 0 rfl _).trans ((A_eq m c 0).trans (V_main_arg0 m c))),
    ((h c).1 3).trans (((dats m 0 c).arrAt_in 3 rfl _).trans ((A_eq m c 3).trans (V_main_arg1 m c))),
    ((h c).1 5).trans (((dats m 0 c).arrAt_in 5 rfl _).trans ((A_eq m c 5).trans (V_main_arg2 m c)))⟩) (run_main m ρ)

end Cert.FfnInIdeal.Value

end
-- ==== Proof.SconvIn.lean ====
/- The short convolution's projection, with its token convolution and gating: what the array holds after the run is the reference's result. -/
module

public import proofs.«01_k».proof.Proof.Gen.SconvInIdeal.Frame
public import proofs.«01_k».proof.Proof.Gen.SconvInRefIdeal.Run
public import proofs.«01_k».proof.Proof.Halo
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SconvInRefIdeal.Value

open Cert.SconvInRefIdeal Cert.SconvInRefIdeal.Gen

/-- The projection of both streams' tokens to the three parts, with the first layer's weights. -/
def PROJ (h : FVec Ideal S8192x2048 .bf16) (w : FVec Ideal S2x2048x6144 .f32) : FVec Ideal S2x4096x6144 .f32 :=
  Host.dotGeneral dot_S2x4096x2048_S2048x6144_S2x4096x6144_2_0_01_1_n_n none (shapeCast _ (extf .f32 h bitsLt_bf16_f32) shapeCasts_S8192x2048_S2x4096x2048) (shapeCast _ (extractStridedSlice S1x2048x6144 ![0, 0, 0] w slices_S2x2048x6144_S1x2048x6144_0_0_0) shapeCasts_S1x2048x6144_S2048x6144)

/-- The product of the second part and the third. -/
def GATED (u : FVec Ideal S2x4096x6144 .f32) : FVec Ideal S2x4096x2048 .f32 :=
  mulf (extractStridedSlice S2x4096x2048 ![0, 0, 2048] u slices_S2x4096x6144_S2x4096x2048_0_0_2048) (extractStridedSlice S2x4096x2048 ![0, 0, 4096] u slices_S2x4096x6144_S2x4096x2048_0_0_4096)

/-- The product with a row of zeros before and after each stream. -/
def PADDED (z : FVec Ideal S2x4096x2048 .f32) : FVec Ideal S2x4098x2048 .f32 :=
  pad S2x4098x2048 ![0, 1, 0] ![0, 1, 0] ![0, 0, 0] z (sitofp .f32 (constantI S_ 32 0#32)) pads_S2x4096x2048_S2x4098x2048_000_110_000 h_S_

/-- One tap's weights at every token: row `k` of the first layer's. -/
def TAP (k : ℕ) (hk : S3x2048.Slices ![k, 0] S1x2048) (f : FVec Ideal S2x3x2048 .f32) : FVec Ideal S2x4096x2048 .f32 :=
  broadcastInDim S2x4096x2048 ![0, 1, 2] bcast_S1x1x2048_S2x4096x2048_0_1_2 (broadcastInDim S1x1x2048 ![2] bcast_S2048_S1x1x2048_2 (shapeCast _ (extractStridedSlice S1x2048 ![k, 0] (shapeCast _ (extractStridedSlice S1x3x2048 ![0, 0, 0] f slices_S2x3x2048_S1x3x2048_0_0_0) shapeCasts_S1x3x2048_S3x2048) hk) shapeCasts_S1x2048_S2048))

/-- The three-tap convolution along the tokens of each stream. -/
def CONV (z : FVec Ideal S2x4096x2048 .f32) (f : FVec Ideal S2x3x2048 .f32) : FVec Ideal S2x4096x2048 .f32 :=
  addf (addf (mulf (TAP 0 slices_S3x2048_S1x2048_0_0 f) (extractStridedSlice S2x4096x2048 ![0, 0, 0] (PADDED z) slices_S2x4098x2048_S2x4096x2048_0_0_0))
    (mulf (TAP 1 slices_S3x2048_S1x2048_1_0 f) (extractStridedSlice S2x4096x2048 ![0, 1, 0] (PADDED z) slices_S2x4098x2048_S2x4096x2048_0_1_0)))
    (mulf (TAP 2 slices_S3x2048_S1x2048_2_0 f) (extractStridedSlice S2x4096x2048 ![0, 2, 0] (PADDED z) slices_S2x4098x2048_S2x4096x2048_0_2_0))

/-- The reference's result. -/
def REF (h : FVec Ideal S8192x2048 .bf16) (w : FVec Ideal S2x2048x6144 .f32) (f : FVec Ideal S2x3x2048 .f32) : FVec Ideal S8192x2048 .bf16 :=
  truncf .bf16 (shapeCast _ (mulf (extractStridedSlice S2x4096x2048 ![0, 0, 0] (PROJ h w) slices_S2x4096x6144_S2x4096x2048_0_0_0)
    (CONV (GATED (PROJ h w)) f)) shapeCasts_S2x4096x2048_S8192x2048) bitsLt_bf16_f32

theorem res_eq (m : (ℓ : Loc nD τ sig) → Buf (Elt Ideal) ℓ) (c : Dev nD) :
    res_main_v34 m c = REF (m ((c.tc : Thread nD τ).loc main_arg0)) (m ((c.tc : Thread nD τ).loc main_arg1)) (m ((c.tc : Thread nD τ).loc main_arg2)) := rfl

end Cert.SconvInRefIdeal.Value

namespace Cert.SconvInIdeal.Value

open Cert.SconvInIdeal Cert.SconvInIdeal.Gen
open Cert.SconvInRefIdeal.Value (PROJ GATED PADDED TAP CONV REF)

variable (m : (ℓ : Loc nD τ sig) → Buf (Elt Ideal) ℓ)

/-- Which block each window has at a grid point: the three parts' columns move with the slow coordinate, the rows with the fast one, and the
    rows' neighbours are the 16 rows before and after, kept inside the array. -/
theorem idx_val : ∀ t : Fin cfg0.N, win0_0.index t = ![t.val % 8 * 64 - 1, 0] ∧ win0_1.index t = ![t.val % 8, 0]
    ∧ win0_2.index t = ![min (t.val % 8 * 64 + 64) 511, 0] ∧ win0_3.index t = ![0, 0, t.val / 8] ∧ win0_4.index t = ![0, 0, t.val / 8 + 4]
    ∧ win0_5.index t = ![0, 0, t.val / 8 + 8] ∧ win0_6.index t = ![0, 0, t.val / 8] ∧ win0_7.index t = ![t.val % 8, t.val / 8] :=
  (by decide +kernel : ∀ t : Fin grid0.N, _)

open Cert.Halo (read_15 read_1040 read_mid read_own seg)

theorem coord_val : ∀ t : Fin cfg0.N, ((grid0.coords t) 1).val = t.val % 8 :=
  (by decide +kernel : ∀ t : Fin grid0.N, _)

/-- The row before a tile is kept where the tile doesn't begin a stream, -/
theorem keep_prev (t : Fin cfg0.N) : k0_pay6 (F := Ideal) (grid0.coords t) = if t.val % 8 % 4 = 0 then 0 else 1 := by
  have h8 : t.val % 8 < 8 := Nat.mod_lt _ (by omega)
  unfold k0_pay6
  simp only [coord_val t]
  generalize t.val % 8 = n at h8
  interval_cases n <;> refine (Ideal.scalar_sitofp_def (φ := .f32) _).trans ?_
  all_goals first
    | (refine (congrArg (fun z : ℤ => ((z : ℝ) : EReal)) (?_ : _ = (0 : ℤ))).trans (by simp); decide)
    | (refine (congrArg (fun z : ℤ => ((z : ℝ) : EReal)) (?_ : _ = (1 : ℤ))).trans (by simp); decide)

/-- and the row after it where it doesn't end one. -/
theorem keep_next (t : Fin cfg0.N) : k0_pay7 (F := Ideal) (grid0.coords t) = if t.val % 8 % 4 = 3 then 0 else 1 := by
  have h8 : t.val % 8 < 8 := Nat.mod_lt _ (by omega)
  unfold k0_pay7
  simp only [coord_val t]
  generalize t.val % 8 = n at h8
  interval_cases n <;> refine (Ideal.scalar_sitofp_def (φ := .f32) _).trans ?_
  all_goals first
    | (refine (congrArg (fun z : ℤ => ((z : ℝ) : EReal)) (?_ : _ = (0 : ℤ))).trans (by simp); decide)
    | (refine (congrArg (fun z : ℤ => ((z : ℝ) : EReal)) (?_ : _ = (1 : ℤ))).trans (by simp); decide)

section Rows

variable (x1 : FVec Ideal S1024x2048 .bf16) (x0 x2 : FVec Ideal S16x2048 .bf16) (W1 W2 : FVec Ideal S2048x512 .bf16)

/-- The rows multiplied: the one before the tile, -/
theorem row_prev (j : Fin 2048) : k0_pay8 (F := Ideal) x1 x0 x2 (ix2 15 j) = x0 (ix2 15 j) := by
  pointwise [k0_pay8]

/-- the one after it, -/
theorem row_next (j : Fin 2048) : k0_pay8 (F := Ideal) x1 x0 x2 (ix2 1040 j) = x2 (ix2 0 j) := by
  pointwise [k0_pay8]

/-- and the tile's own. -/
theorem row_own (q : Fin 1056) (r : Fin 1024) (hq : q.val = 16 + r.val) (j : Fin 2048) : k0_pay8 (F := Ideal) x1 x0 x2 (ix2 q j) = x1 (ix2 r j) := by
  have hr := r.isLt
  pointwise [k0_pay8]
  rw [dif_pos (by omega), dif_neg (by omega)]
  exact congrArg x1 ((ix2_inj ..).2 ⟨Fin.ext (by simp only; omega), rfl⟩)

/-- A row's part is its row of the projection. -/
theorem part_eq (W : FVec Ideal S2048x512 .bf16) (h : FVec Ideal S8192x2048 .bf16) (w : FVec Ideal S2x2048x6144 .f32) (i : ℕ) (x : Fin 512) (n : Fin 6144)
    (h1 : ∀ (r : Fin 1024) (R : Fin 8192), R.val = 1024 * i + r.val → ∀ j, x1 (ix2 r j) = h (ix2 R j)) (hW : ∀ j : Fin 2048, W (ix2 j x) = w (ix3 0 j n))
    (r : Fin 1024) (q : Fin 1056) (hq : q.val = 16 + r.val) (s : Fin 2) (p : Fin 4096) (hp : s.val * 4096 + p.val = 1024 * i + r.val) :
    k0_pay10 (k0_pay9 (F := Ideal) x1 x0 x2 W) (ix2 q x) = PROJ h w (ix3 s p n) := by
  pointwise [k0_pay10, k0_pay9, PROJ]
  refine Finset.sum_congr rfl fun j _ => ?_
  rw [hW j, row_own x1 x0 x2 q r hq, h1 r ⟨s.val * 4096 + p.val, by omega⟩ hp]

/-- The convolved rows of a tile are the padded product's, whatever the tile's place in its stream. -/
theorem meet (h : FVec Ideal S8192x2048 .bf16) (w : FVec Ideal S2x2048x6144 .f32) (i : ℕ) (hi : i < 8) (x : Fin 512) (o : Fin 2048) (n1 n2 : Fin 6144)
    (hn1 : n1.val = 2048 + o.val) (hn2 : n2.val = 4096 + o.val)
    (h1 : ∀ (r : Fin 1024) (R : Fin 8192), R.val = 1024 * i + r.val → ∀ j, x1 (ix2 r j) = h (ix2 R j))
    (h0 : i % 4 ≠ 0 → ∀ R : Fin 8192, R.val + 1 = 1024 * i → ∀ j, x0 (ix2 15 j) = h (ix2 R j))
    (h2 : i % 4 ≠ 3 → ∀ R : Fin 8192, R.val = 1024 * i + 1024 → ∀ j, x2 (ix2 0 j) = h (ix2 R j))
    (hW1 : ∀ j : Fin 2048, W1 (ix2 j x) = w (ix3 0 j n1)) (hW2 : ∀ j : Fin 2048, W2 (ix2 j x) = w (ix3 0 j n2))
    (r d : ℕ) (hr : r < 1024) (hd : d < 3) (k : Fin 1040) (hk : k.val = 7 + r + d)
    (s : Fin 2) (hs : s.val = (1024 * i + r) / 4096) (p : Fin 4098) (hp : p.val = (1024 * i + r) % 4096 + d) :
    seg (k0_pay13 (k0_pay8 (F := Ideal) x1 x0 x2) W1 W2)
        (k0_pay14 (F := Ideal) (if i % 4 = 0 then (0 : EReal) else 1) fun j => k0_pay13 (k0_pay8 (F := Ideal) x1 x0 x2) W1 W2 (ix2 15 (j 1)))
        (k0_pay1 (F := Ideal) (fun j => k0_pay13 (k0_pay8 (F := Ideal) x1 x0 x2) W1 W2 (ix2 1040 (j 1))) (k0_pay15 (if i % 4 = 3 then (0 : EReal) else 1))) (ix2 k x)
      = PADDED (GATED (PROJ h w)) (ix3 s p o) := by
  have hu : ∀ q : Fin 1056, k0_pay13 (k0_pay8 (F := Ideal) x1 x0 x2) W1 W2 (ix2 q x)
      = (∑ j : Fin 2048, k0_pay8 (F := Ideal) x1 x0 x2 (ix2 q j) * w (ix3 0 j n1)) * ∑ j : Fin 2048, k0_pay8 (F := Ideal) x1 x0 x2 (ix2 q j) * w (ix3 0 j n2) := by
    intro q
    pointwise [k0_pay13]
    exact congrArg₂ (· * ·) (Finset.sum_congr rfl fun j _ => by rw [hW1 j]) (Finset.sum_congr rfl fun j _ => by rw [hW2 j])
  have hz : (FloatOps.sitofp FTy.f32 0#32 : Ideal .f32) = 0 := by
    refine (congrArg (fun z : ℤ => ((z : ℝ) : EReal)) (?_ : _ = (0 : ℤ))).trans (by simp)
    decide
  have ho := o.isLt
  have m1 : (⟨2048 + o.val, by omega⟩ : Fin 6144) = n1 := Fin.ext hn1.symm
  have m2 : (⟨4096 + o.val, by omega⟩ : Fin 6144) = n2 := Fin.ext hn2.symm
  pointwise [PADDED, GATED, PROJ]
  simp only [m1, m2]
  unfold seg
  rw [hz]
  have e0 : ((ix2 k x : Cert.Halo.Mid.Idx) 0).val = k.val := rfl
  by_cases c1 : k.val = 1032
  · rw [if_pos (e0.trans c1)]
    pointwise [k0_pay1, k0_pay15]
    by_cases c3 : i % 4 = 3
    · rw [if_pos c3, mul_zero, dif_neg (by omega)]
    · rw [if_neg c3, mul_one, dif_pos (by omega), hu]
      simp only [row_next, h2 c3 ⟨s.val * 4096 + (p.val - 1), by omega⟩ (by simp only; omega)]
  rw [if_neg (by rw [e0]; exact c1)]
  by_cases c2 : k.val = 7
  · rw [if_pos (e0.trans c2)]
    pointwise [k0_pay14]
    by_cases c3 : i % 4 = 0
    · rw [if_pos c3, mul_zero, dif_neg (by omega)]
    · rw [if_neg c3, mul_one, dif_pos (by omega), hu]
      simp only [row_prev, h0 c3 ⟨s.val * 4096 + (p.val - 1), by omega⟩ (by simp only; omega)]
  · rw [if_neg (by rw [e0]; exact c2), dif_pos (by omega)]
    refine (hu ⟨8 + k.val, by omega⟩).trans ?_
    simp only [row_own x1 x0 x2 ⟨8 + k.val, by omega⟩ ⟨r + d - 1, by omega⟩ (by simp only; omega), h1 ⟨r + d - 1, by omega⟩ ⟨s.val * 4096 + (p.val - 1), by omega⟩ (by simp only; omega)]

end Rows

/-- One element of a tile from its rows' elements: the first part's, and the three taps of the convolved rows'. -/
theorem pure_eq (b : FVec Ideal S1024x512 .f32) (s1 : FVec Ideal S1040x512 .f32) (f0 f1 f2 : FVec Ideal S1x1x512 .f32) (h : FVec Ideal S8192x2048 .bf16)
    (w : FVec Ideal S2x2048x6144 .f32) (f : FVec Ideal S2x3x2048 .f32) (r : Fin 1024) (x : Fin 512) (R : Fin 8192) (o : Fin 2048)
    (hb : ∀ (s : Fin 2) (p : Fin 4096) (n : Fin 6144), s.val = R.val / 4096 → p.val = R.val % 4096 → n.val = o.val → b (ix2 r x) = PROJ h w (ix3 s p n))
    (hs1 : ∀ d < 3, ∀ k : Fin 1040, k.val = 7 + r.val + d → ∀ (s : Fin 2) (p : Fin 4098), s.val = R.val / 4096 →
      p.val = R.val % 4096 + d → s1 (ix2 k x) = PADDED (GATED (PROJ h w)) (ix3 s p o))
    (hf0 : f0 (ix3 0 0 x) = f (ix3 0 0 o)) (hf1 : f1 (ix3 0 0 x) = f (ix3 0 1 o)) (hf2 : f2 (ix3 0 0 x) = f (ix3 0 2 o)) :
    k0_pay2 (F := Ideal) b s1 f0 f1 f2 (ix2 r x) = REF h w f (ix2 R o) := by
  have hr := r.isLt
  have hR := R.isLt
  have ho := o.isLt
  pointwise [k0_pay2, REF, CONV, TAP]
  have e0 : (8 + r.val + 1040 - 1) % 1040 = 7 + r.val + 0 := by omega
  have e1 : 8 + r.val = 7 + r.val + 1 := by omega
  have e2 : (8 + r.val + 1040 - 1039) % 1040 = 7 + r.val + 2 := by omega
  have a0 := hs1 0 (by omega) ⟨(8 + r.val + 1040 - 1) % 1040, by omega⟩ e0 ⟨R.val / 4096, by omega⟩ ⟨R.val % 4096, by omega⟩ rfl (by simp only; omega)
  have a1 := hs1 1 (by omega) ⟨8 + r.val, by omega⟩ e1 ⟨R.val / 4096, by omega⟩ ⟨1 + R.val % 4096, by omega⟩ rfl (by simp only; omega)
  have a2 := hs1 2 (by omega) ⟨(8 + r.val + 1040 - 1039) % 1040, by omega⟩ e2 ⟨R.val / 4096, by omega⟩ ⟨2 + R.val % 4096, by omega⟩ rfl (by simp only; omega)
  have b0 := hb ⟨R.val / 4096, by omega⟩ ⟨R.val % 4096, by omega⟩ ⟨o.val, by omega⟩ rfl rfl rfl
  simp only [a0, a1, a2, b0, hf0, hf1, hf2]

section Blocks

variable (c : Dev nD) (t : Fin cfg0.N)

theorem blk_own (r : Fin 1024) (R : Fin 8192) (hR : R.val = 1024 * (t.val % 8) + r.val) (j : Fin 2048) :
    iblk m c 1 t (ix2 r j) = m ((c : Thread nD τ).loc main_arg0) (ix2 R j) := by
  blk_ext [iblk, V, idx_val t, hR]

theorem blk_prev (hc : t.val % 8 % 4 ≠ 0) (R : Fin 8192) (hR : R.val + 1 = 1024 * (t.val % 8)) (j : Fin 2048) :
    iblk m c 0 t (ix2 15 j) = m ((c : Thread nD τ).loc main_arg0) (ix2 R j) := by
  blk_ext [iblk, V, idx_val t, hR]

theorem blk_next (hc : t.val % 8 % 4 ≠ 3) (R : Fin 8192) (hR : R.val = 1024 * (t.val % 8) + 1024) (j : Fin 2048) :
    iblk m c 2 t (ix2 0 j) = m ((c : Thread nD τ).loc main_arg0) (ix2 R j) := by
  blk_ext [iblk, V, idx_val t, hR]

theorem blk_b (x : Fin 512) (n : Fin 6144) (hn : n.val = t.val / 8 * 512 + x.val) (j : Fin 2048) :
    k0_pay3 (F := Ideal) (iblk m c 3 t) (ix2 j x) = m ((c : Thread nD τ).loc main_arg1) (ix3 0 j n) := by
  pointwise [k0_pay3]
  blk_ext [iblk, V, idx_val t, hn]

theorem blk_c (x : Fin 512) (n : Fin 6144) (hn : n.val = 2048 + (t.val / 8 * 512 + x.val)) (j : Fin 2048) :
    k0_pay4 (F := Ideal) (iblk m c 4 t) (ix2 j x) = m ((c : Thread nD τ).loc main_arg1) (ix3 0 j n) := by
  pointwise [k0_pay4]
  blk_ext [iblk, V, idx_val t, hn]

theorem blk_x (x : Fin 512) (n : Fin 6144) (hn : n.val = 4096 + (t.val / 8 * 512 + x.val)) (j : Fin 2048) :
    k0_pay5 (F := Ideal) (iblk m c 5 t) (ix2 j x) = m ((c : Thread nD τ).loc main_arg1) (ix3 0 j n) := by
  pointwise [k0_pay5]
  blk_ext [iblk, V, idx_val t, hn]

theorem tap (d : Fin 3) (x : Fin 512) (n : Fin 2048) (hn : n.val = t.val / 8 * 512 + x.val) :
    iblk m c 6 t (ix3 0 d x) = m ((c : Thread nD τ).loc main_arg2) (ix3 0 d n) := by
  blk_ext [iblk, V, idx_val t, hn]

end Blocks

/-- A part's weights are the same at two grid points of one column of tiles, -/
theorem wblk_eq3 (c : Dev nD) (t t' : Fin cfg0.N) (h : t.val / 8 = t'.val / 8) : iblk m c 3 t = iblk m c 3 t' := by
  funext y
  blk_ext [iblk, V, idx_val t, idx_val t', h]

theorem wblk_eq4 (c : Dev nD) (t t' : Fin cfg0.N) (h : t.val / 8 = t'.val / 8) : iblk m c 4 t = iblk m c 4 t' := by
  funext y
  blk_ext [iblk, V, idx_val t, idx_val t', h]

theorem wblk_eq5 (c : Dev nD) (t t' : Fin cfg0.N) (h : t.val / 8 = t'.val / 8) : iblk m c 5 t = iblk m c 5 t' := by
  funext y
  blk_ext [iblk, V, idx_val t, idx_val t', h]

/-- and the first of them casts the three parts' into the scratches, -/
theorem scratch_first (c : Dev nD) (t : Fin cfg0.N) (hc : t.val % 8 = 0) :
    (outsAt0 m c t.val t.isLt).2 = (k0_pay3 (iblk m c 3 t), k0_pay4 (iblk m c 4 t), k0_pay5 (iblk m c 5 t)) := by
  rw [outsAt0_A m c t hc hc hc]
  frame_out

/-- which then hold them. -/
theorem scratch (c : Dev nD) (n : ℕ) : ∀ t : Fin cfg0.N, t.val = n →
    (outsAt0 m c t.val t.isLt).2 = (k0_pay3 (iblk m c 3 t), k0_pay4 (iblk m c 4 t), k0_pay5 (iblk m c 5 t)) := by
  induction n with
  | zero => intro t ht; exact scratch_first m c t (by rw [ht])
  | succ n ih =>
    intro t ht
    by_cases hc : t.val % 8 = 0
    · exact scratch_first m c t hc
    · have e := ih ⟨t.val - 1, Nat.lt_of_le_of_lt (Nat.sub_le _ _) t.isLt⟩ (by simp only; omega)
      rw [wblk_eq3 m c _ t (by simp only; omega), wblk_eq4 m c _ t (by simp only; omega), wblk_eq5 m c _ t (by simp only; omega)] at e
      rw [outsAt0_B m c t hc hc hc]
      dsimp only [sout0_B_0, sout0_B_1, sout0_B_2]
      exact e

theorem scratch_before (c : Dev nD) (t : Fin cfg0.N) (hc : ¬t.val % 8 = 0) :
    (outsAt0 m c (t.val - 1) (Nat.lt_of_le_of_lt (Nat.sub_le _ _) t.isLt)).2 = (k0_pay3 (iblk m c 3 t), k0_pay4 (iblk m c 4 t), k0_pay5 (iblk m c 5 t)) := by
  have e := scratch m c _ ⟨t.val - 1, Nat.lt_of_le_of_lt (Nat.sub_le _ _) t.isLt⟩ rfl
  rw [wblk_eq3 m c _ t (by simp only; omega), wblk_eq4 m c _ t (by simp only; omega), wblk_eq5 m c _ t (by simp only; omega)] at e
  exact e

/-- One element of a tile from its blocks and the three parts' cast weights. -/
theorem tile_eq (c : Dev nD) (t : Fin cfg0.N) (y : S1024x512.Idx) (b : FVec Ideal S1024x512 .f32) (s1 : FVec Ideal S1040x512 .f32) (W0 W1 W2 : FVec Ideal S2048x512 .bf16)
    (hW0 : W0 = k0_pay3 (iblk m c 3 t)) (hW1 : W1 = k0_pay4 (iblk m c 4 t)) (hW2 : W2 = k0_pay5 (iblk m c 5 t))
    (hb : b = fun j : Cert.Halo.Own.Idx => k0_pay10 (k0_pay9 (iblk m c 1 t) (iblk m c 0 t) (iblk m c 2 t) W0)
      (ix2 ⟨16 + (j 0).val, by have : (j 0).val < 1024 := (j 0).isLt; omega⟩ (j 1)))
    (hs1 : s1 = seg (k0_pay13 (k0_pay8 (iblk m c 1 t) (iblk m c 0 t) (iblk m c 2 t)) W1 W2) (k0_pay14 (k0_pay6 (grid0.coords t)) fun j => k0_pay13 (k0_pay8 (iblk m c 1 t) (iblk m c 0 t) (iblk m c 2 t)) W1 W2 (ix2 15 (j 1)))
      (k0_pay1 (fun j => k0_pay13 (k0_pay8 (iblk m c 1 t) (iblk m c 0 t) (iblk m c 2 t)) W1 W2 (ix2 1040 (j 1))) (k0_pay15 (k0_pay7 (grid0.coords t))))) :
    k0_pay2 (F := Ideal) b s1 (View.ld (iblk m c 6 t) (Rect.unit ![0, 0, 0] ![1, 1, 512] inb_S1x3x512_S1x1x512_0_0_0))
        (View.ld (iblk m c 6 t) (Rect.unit ![0, 1, 0] ![1, 1, 512] inb_S1x3x512_S1x1x512_0_1_0))
        (View.ld (iblk m c 6 t) (Rect.unit ![0, 2, 0] ![1, 1, 512] inb_S1x3x512_S1x1x512_0_2_0)) y
      = REF (m ((c : Thread nD τ).loc main_arg0)) (m ((c : Thread nD τ).loc main_arg1)) (m ((c : Thread nD τ).loc main_arg2))
          (((cfg0.win 7).blk t).view.emb y) := by
  have hr : (y 0).val < 1024 := (y 0).isLt
  have hx : (y 1).val < 512 := (y 1).isLt
  have ht : t.val < 32 := lt_of_lt_of_eq t.isLt (show cfg0.N = 32 from N_0)
  have hemb : ((cfg0.win 7).blk t).view.emb y = ix2 (⟨1024 * (t.val % 8) + (y 0).val, by omega⟩ : Fin 8192) (⟨t.val / 8 * 512 + (y 1).val, by omega⟩ : Fin 2048) := by
    blk_ext [idx_val t]
  rw [hemb]
  conv_lhs => rw [eq_ix2 y]
  refine pure_eq b s1 _ _ _ _ _ _ (y 0) (y 1) _ _ ?_ ?_ ?_ ?_ ?_
  · intro s p n hs hp hn
    rw [hb]
    exact part_eq _ _ _ W0 _ _ (t.val % 8) (y 1) n (blk_own m c t) (by rw [hW0]; exact blk_b m c t (y 1) n hn) (y 0) _ rfl s p
      (by simp only at hs hp; omega)
  · intro d hd k hk s p hs hp
    rw [hs1, keep_prev t, keep_next t]
    exact meet _ _ _ W1 W2 _ _ (t.val % 8) (by omega) (y 1) _ ⟨2048 + (t.val / 8 * 512 + (y 1).val), by omega⟩ ⟨4096 + (t.val / 8 * 512 + (y 1).val), by omega⟩ rfl rfl
      (blk_own m c t) (fun h R e j => blk_prev m c t h R e j) (fun h R e j => blk_next m c t h R e j)
      (by rw [hW1]; exact blk_c m c t (y 1) _ rfl) (by rw [hW2]; exact blk_x m c t (y 1) _ rfl) (y 0).val d hr hd k hk s hs p hp
  · pointwise
    exact tap m c t 0 (y 1) _ rfl
  · pointwise
    exact tap m c t 1 (y 1) _ rfl
  · pointwise
    exact tap m c t 2 (y 1) _ rfl

/-- What a grid point leaves in the output's block. -/
theorem point (c : Dev nD) (t : Fin cfg0.N) (y : S1024x512.Idx) : (outsAt0 m c t.val t.isLt).1 y
    = REF (m ((c : Thread nD τ).loc main_arg0)) (m ((c : Thread nD τ).loc main_arg1)) (m ((c : Thread nD τ).loc main_arg2))
        (((cfg0.win 7).blk t).view.emb y) := by
  by_cases hc : t.val % 8 = 0
  · rw [outsAt0_A m c t hc hc hc]
    frame_out
    simp only [read_15, read_1040, read_mid, read_own]
    exact tile_eq m c t y _ _ _ _ _ rfl rfl rfl rfl rfl
  · rw [outsAt0_B m c t hc hc hc, scratch_before m c t hc]
    frame_out
    simp only [read_15, read_1040, read_mid, read_own]
    exact tile_eq m c t y _ _ _ _ _ ((Memref.isWhole_whole cc0_scratch0).read_unread _) ((Memref.isWhole_whole cc0_scratch1).read_unread _) ((Memref.isWhole_whole cc0_scratch2).read_unread _) rfl rfl

/-- The array after the run is the reference's result. -/
theorem final (c : Dev nD) : (dats m 0 c).arrAt 7 (cfgs 0).N
    = REF (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  exact point m c t y

/-- The run: the result's array is the reference's, and the arguments are as they were. -/
theorem run_value (ρ : Dev nD → PrngReg) : θ_run defs (onTc (τ := τ) (main (F := Ideal))) ⟨m, fun _ => 0, ρ⟩ fun r => ∀ c : Dev nD,
    r.2.mem ((c : Thread nD τ).loc main_v0)
      = REF (m ((c : Thread nD τ).loc main_arg0)) (m ((c : Thread nD τ).loc main_arg1)) (m ((c : Thread nD τ).loc main_arg2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).1 7).trans (final m c),
    ((h c).1 0).trans (((dats m 0 c).arrAt_in 0 rfl _).trans ((A_eq m c 0).trans (V_main_arg0 m c))),
    ((h c).1 3).trans (((dats m 0 c).arrAt_in 3 rfl _).trans ((A_eq m c 3).trans (V_main_arg1 m c))),
    ((h c).1 6).trans (((dats m 0 c).arrAt_in 6 rfl _).trans ((A_eq m c 6).trans (V_main_arg2 m c)))⟩) (run_main m ρ)

end Cert.SconvInIdeal.Value

end
-- ==== Proof.FfnOut.lean ====
/- The FFN's second projection with its norm and residual, on the last layer: what the array holds after the run is the reference's result. -/
module

public import proofs.«01_k».proof.Proof.Gen.FfnOutIdeal.Value
public import proofs.«01_k».proof.Proof.Gen.FfnOutRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnOutRefIdeal.Value

open Cert.FfnOutRefIdeal Cert.FfnOutRefIdeal.Gen

/-- The reference's result as a function of its four arguments. -/
def REF (a : FVec Ideal S8192x5632 .bf16) (w : FVec Ideal S4x5632x2048 .f32) (x : FVec Ideal S8192x2048 .f32)
    (n : FVec Ideal S2048 .f32) : FVec Ideal S8192x2048 .f32 :=
  addf x (mulf (mulf (Host.dotGeneral dot_S8192x5632_S5632x2048_S8192x2048_1_0_0_1_n_n none (extf .f32 a bitsLt_bf16_f32) (shapeCast _ (extractStridedSlice S1x5632x2048 ![3, 0, 0] w slices_S4x5632x2048_S1x5632x2048_3_0_0) shapeCasts_S1x5632x2048_S5632x2048)) (broadcastInDim S8192x2048 ![0, 1] bcast_S8192x1_S8192x2048_0_1 (Host.rsqrt (addf (Host.divf (broadcastInDim S8192x1 ![0] bcast_S8192_S8192x1_0 (Host.reduceAdd (mulf (Host.dotGeneral dot_S8192x5632_S5632x2048_S8192x2048_1_0_0_1_n_n none (extf .f32 a bitsLt_bf16_f32) (shapeCast _ (extractStridedSlice S1x5632x2048 ![3, 0, 0] w slices_S4x5632x2048_S1x5632x2048_3_0_0) shapeCasts_S1x5632x2048_S5632x2048)) (Host.dotGeneral dot_S8192x5632_S5632x2048_S8192x2048_1_0_0_1_n_n none (extf .f32 a bitsLt_bf16_f32) (shapeCast _ (extractStridedSlice S1x5632x2048 ![3, 0, 0] w slices_S4x5632x2048_S1x5632x2048_3_0_0) shapeCasts_S1x5632x2048_S5632x2048))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 n)))

end Cert.FfnOutRefIdeal.Value

namespace Cert.FfnOutIdeal.Value

open Cert.FfnOutIdeal Cert.FfnOutIdeal.Gen
open Cert.FfnOutRefIdeal.Value (REF)

variable (m : (ℓ : Loc nD τ sig) → Buf (Elt Ideal) ℓ)

/-- Which block each window has at a grid point. -/
theorem idx_val : ∀ t : Fin cfg0.N, win0_0.index t = ![t.val, 0] ∧ win0_1.index t = ![3, 0, 0] ∧ win0_2.index t = ![t.val, 0]
    ∧ win0_3.index t = ![0, 0] ∧ win0_5.index t = ![t.val, 0] :=
  (by decide +kernel : ∀ t : Fin grid0.N, _)

/-- One element of a point's block. -/
theorem point (c : Dev nD) (t : Fin cfg0.N) (y : S256x2048.Idx) :
    k0_pay1 (iblk m c 0 t) (iblk m c 1 t) (iblk m c 2 t) (iblk m c 3 t) y
      = REF (m ((c : Thread nD τ).loc main_arg0)) (m ((c : Thread nD τ).loc main_arg1)) (m ((c : Thread nD τ).loc main_arg2))
          (m ((c : Thread nD τ).loc main_arg3)) (((cfg0.win 5).blk t).view.emb y) := by
  pointwise [k0_pay1, REF]
  blk_point [iblk, V, idx_val t]

/-- The array after the run is the reference's. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  exact point m c t y

end Cert.FfnOutIdeal.Value

end
-- ==== Proof.MixOut.lean ====
/- A mixer's output projection with its norm, residual and the next norm: what the two arrays hold after the run is the reference's two results. -/
module

public import proofs.«01_k».proof.Proof.Gen.MixOutIdeal.Value
public import proofs.«01_k».proof.Proof.Gen.MixOutRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixOutRefIdeal.Value

open Cert.MixOutRefIdeal Cert.MixOutRefIdeal.Gen

/-- A norm over rows of 2048, with its weights. -/
def NORM (x : FVec Ideal S8192x2048 .f32) (n : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 n))

/-- The activations' product with the first layer's weights. -/
def PROD (a : FVec Ideal S8192x2048 .bf16) (w : FVec Ideal S2x2048x2048 .f32) : FVec Ideal S8192x2048 .f32 :=
  Host.dotGeneral dot_S8192x2048_S2048x2048_S8192x2048_1_0_0_1_n_n none (extf .f32 a bitsLt_bf16_f32) (shapeCast _ (extractStridedSlice S1x2048x2048 ![0, 0, 0] w slices_S2x2048x2048_S1x2048x2048_0_0_0) shapeCasts_S1x2048x2048_S2048x2048)

/-- The reference's first result: the new residual. -/
def REFX (a : FVec Ideal S8192x2048 .bf16) (w : FVec Ideal S2x2048x2048 .f32) (x : FVec Ideal S8192x2048 .f32)
    (n : FVec Ideal S2048 .f32) : FVec Ideal S8192x2048 .f32 :=
  addf x (NORM (PROD a w) n)

/-- The reference's second result: the next sublayer's input. -/
def REFH (a : FVec Ideal S8192x2048 .bf16) (w : FVec Ideal S2x2048x2048 .f32) (x : FVec Ideal S8192x2048 .f32)
    (n n' : FVec Ideal S2048 .f32) : FVec Ideal S8192x2048 .bf16 :=
  truncf .bf16 (NORM (REFX a w x n) n') bitsLt_bf16_f32

end Cert.MixOutRefIdeal.Value

namespace Cert.MixOutIdeal.Value

open Cert.MixOutIdeal Cert.MixOutIdeal.Gen
open Cert.MixOutRefIdeal.Value (NORM PROD REFX REFH)

variable (m : (ℓ : Loc nD τ sig) → Buf (Elt Ideal) ℓ)

/-- Which block each window has at a grid point. -/
theorem idx_val : ∀ t : Fin cfg0.N, win0_0.index t = ![t.val, 0] ∧ win0_1.index t = ![0, 0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- One element of a point's block of the residual. -/
theorem point_x (c : Dev nD) (t : Fin cfg0.N) (y : S512x2048.Idx) :
    k0_pay1 (iblk m c 0 t) (iblk m c 1 t) (iblk m c 2 t) (iblk m c 3 t) y
      = REFX (m ((c : Thread nD τ).loc main_arg0)) (m ((c : Thread nD τ).loc main_arg1)) (m ((c : Thread nD τ).loc main_arg2))
          (m ((c : Thread nD τ).loc main_arg3)) (((cfg0.win 5).blk t).view.emb y) := by
  pointwise [k0_pay1, REFX, NORM, PROD]
  blk_point [iblk, V, idx_val t]

/-- One element of a point's block of the next input. -/
theorem point_h (c : Dev nD) (t : Fin cfg0.N) (y : S512x2048.Idx) :
    k0_pay2 (iblk m c 0 t) (iblk m c 1 t) (iblk m c 2 t) (iblk m c 3 t) (iblk m c 4 t) y
      = REFH (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  pointwise [k0_pay2, k0_pay1, REFH, REFX, NORM, PROD]
  blk_point [iblk, V, idx_val t]

/-- The residual after the run is the reference's. -/
theorem final_x (c : Dev nD) : (dats m 0 c).arrAt 5 (cfgs 0).N
    = REFX (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  exact point_x m c t y

/-- The next input after the run is the reference's. -/
theorem final_h (c : Dev nD) : (dats m 0 c).arrAt 6 (cfgs 0).N
    = REFH (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]; frame_out
  exact point_h m c t y

end Cert.MixOutIdeal.Value

end
-- ==== Proof.HgrnQ.lean ====
/- The projection to the queries of the recurrence, with its silu: what the array holds after the run is the reference's result. -/
module

public import proofs.«01_k».proof.Proof.Gen.HgrnQIdeal.Value
public import proofs.«01_k».proof.Proof.Gen.HgrnQRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.HgrnQRefIdeal.Value

open Cert.HgrnQRefIdeal Cert.HgrnQRefIdeal.Gen

/-- The reference's result as a function of the two arguments. -/
def REF (h : FVec Ideal S8192x2048 .bf16) (w : FVec Ideal S2x2048x10240 .f32) : FVec Ideal S8192x2048 .bf16 :=
  truncf .bf16 (mulf (extractStridedSlice S8192x2048 ![0, 0] (Host.dotGeneral dot_S8192x2048_S2048x10240_S8192x10240_1_0_0_1_n_n none (extf .f32 h bitsLt_bf16_f32) (shapeCast _ (extractStridedSlice S1x2048x10240 ![0, 0, 0] w slices_S2x2048x10240_S1x2048x10240_0_0_0) shapeCasts_S1x2048x10240_S2048x10240)) slices_S8192x10240_S8192x2048_0_0) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (extractStridedSlice S8192x2048 ![0, 0] (Host.dotGeneral dot_S8192x2048_S2048x10240_S8192x10240_1_0_0_1_n_n none (extf .f32 h bitsLt_bf16_f32) (shapeCast _ (extractStridedSlice S1x2048x10240 ![0, 0, 0] w slices_S2x2048x10240_S1x2048x10240_0_0_0) shapeCasts_S1x2048x10240_S2048x10240)) slices_S8192x10240_S8192x2048_0_0)))))) bitsLt_bf16_f32

end Cert.HgrnQRefIdeal.Value

namespace Cert.HgrnQIdeal.Value

open Cert.HgrnQIdeal Cert.HgrnQIdeal.Gen
open Cert.HgrnQRefIdeal.Value (REF)

variable (m : (ℓ : Loc nD τ sig) → Buf (Elt Ideal) ℓ)

/-- Which block each window has at a grid point. -/
theorem idx_val : ∀ t : Fin cfg0.N, win0_0.index t = ![t.val % 8, 0] ∧ win0_1.index t = ![0, 0, t.val / 8]
    ∧ win0_2.index t = ![t.val % 8, t.val / 8] ∧ t.val / 8 < 2 :=
  (by decide +kernel : ∀ t : Fin grid0.N, _)

/-- Two points of the same column block stage the same weights. -/
theorem wblk_eq (c : Dev nD) (t t' : Fin cfg0.N) (h : t.val / 8 = t'.val / 8) : iblk m c 1 t = iblk m c 1 t' := by
  funext y
  blk_ext [iblk, V, idx_val t, idx_val t', h]

/-- A column block's first point puts its weights in the scratch. -/
theorem scratch_first (c : Dev nD) (t : Fin cfg0.N) (hc : t.val % 8 = 0) :
    (outsAt0 m c t.val t.isLt).2 = k0_pay3 (iblk m c 1 t) := by
  rw [outsAt0_A m c t hc]; frame_out

/-- The scratch holds the column block's weights after every point. -/
theorem scratch (c : Dev nD) (n : ℕ) : ∀ t : Fin cfg0.N, t.val = n → (outsAt0 m c t.val t.isLt).2 = k0_pay3 (iblk m c 1 t) := by
  induction n with
  | zero => intro t ht; exact scratch_first m c t (by rw [ht])
  | succ n ih =>
    intro t ht
    by_cases hc : t.val % 8 = 0
    · exact scratch_first m c t hc
    · have e := ih ⟨t.val - 1, Nat.lt_of_le_of_lt (Nat.sub_le _ _) t.isLt⟩ (by simp only; omega)
      rw [wblk_eq m c _ t (by simp only; omega)] at e
      rw [outsAt0_B m c t hc]
      dsimp only [sout0_B_0]
      exact e

/-- So at a later point of a column block the scratch holds that point's weights. -/
theorem scratch_before (c : Dev nD) (t : Fin cfg0.N) (hc : ¬t.val % 8 = 0) :
    (outsAt0 m c (t.val - 1) (Nat.lt_of_le_of_lt (Nat.sub_le _ _) t.isLt)).2 = k0_pay3 (iblk m c 1 t) :=
  (scratch m c _ ⟨t.val - 1, Nat.lt_of_le_of_lt (Nat.sub_le _ _) t.isLt⟩ rfl).trans (congrArg k0_pay3 (wblk_eq m c _ t (by simp only; omega)))

/-- Reading back the whole scratch gives what was put there. -/
theorem scratch_read (h : (Memref.whole cc0_scratch0 : Memref sig .tc .vmem S2048x1024 .bf16).IsWhole) (X : Vec Ideal S2048x1024 .bf16) :
    View.read (Elt Ideal) (View.whole cc0_scratch0) (h.unread X) = X := h.read_unread X

/-- One element of a point's block. -/
theorem point (c : Dev nD) (t : Fin cfg0.N) (y : S1024x1024.Idx) :
    (outsAt0 m c t.val t.isLt).1 y
      = REF (m ((c : Thread nD τ).loc main_arg0)) (m ((c : Thread nD τ).loc main_arg1)) (((cfg0.win 2).blk t).view.emb y) := by
  by_cases hc : t.val % 8 = 0
  · rw [outsAt0_A m c t hc]; frame_out
    canon_tiles x h
    all_goals (pointwise [k0_pay1, k0_pay2, k0_pay3, k0_pay4, k0_pay5, k0_pay6, REF, zero_sub]; blk_point [iblk, V, idx_val t])
  · rw [outsAt0_B m c t hc, scratch_before m c t hc]; frame_out
    simp only [scratch_read]
    canon_tiles x h
    all_goals (pointwise [k0_pay1, k0_pay2, k0_pay3, k0_pay4, k0_pay5, k0_pay6, REF, zero_sub]; blk_point [iblk, V, idx_val t])

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.HgrnQIdeal.Value

end
-- ==== Proof.HgrnV.lean ====
/- The projection to the values of the recurrence: what the array holds after the run is the reference's result. -/
module

public import proofs.«01_k».proof.Proof.Gen.HgrnVIdeal.Value
public import proofs.«01_k».proof.Proof.Gen.HgrnVRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.HgrnVRefIdeal.Value

open Cert.HgrnVRefIdeal Cert.HgrnVRefIdeal.Gen

/-- The reference's result as a function of the two arguments. -/
def REF (h : FVec Ideal S8192x2048 .bf16) (w : FVec Ideal S2x2048x10240 .f32) : FVec Ideal S8192x2048 .bf16 :=
  truncf .bf16 (extractStridedSlice S8192x2048 ![0, 6144] (Host.dotGeneral dot_S8192x2048_S2048x10240_S8192x10240_1_0_0_1_n_n none (extf .f32 h bitsLt_bf16_f32) (shapeCast _ (extractStridedSlice S1x2048x10240 ![0, 0, 0] w slices_S2x2048x10240_S1x2048x10240_0_0_0) shapeCasts_S1x2048x10240_S2048x10240)) slices_S8192x10240_S8192x2048_0_6144) bitsLt_bf16_f32

end Cert.HgrnVRefIdeal.Value

namespace Cert.HgrnVIdeal.Value

open Cert.HgrnVIdeal Cert.HgrnVIdeal.Gen
open Cert.HgrnVRefIdeal.Value (REF)

variable (m : (ℓ : Loc nD τ sig) → Buf (Elt Ideal) ℓ)

/-- Which block each window has at a grid point. -/
theorem idx_val : ∀ t : Fin cfg0.N, win0_0.index t = ![t.val % 8, 0] ∧ win0_1.index t = ![0, 0, 6 + t.val / 8]
    ∧ win0_2.index t = ![t.val % 8, t.val / 8] ∧ t.val / 8 < 2 :=
  (by decide +kernel : ∀ t : Fin grid0.N, _)

/-- Two points of the same column block stage the same weights. -/
theorem wblk_eq (c : Dev nD) (t t' : Fin cfg0.N) (h : t.val / 8 = t'.val / 8) : iblk m c 1 t = iblk m c 1 t' := by
  funext y
  blk_ext [iblk, V, idx_val t, idx_val t', h]

/-- A column block's first point puts its weights in the scratch. -/
theorem scratch_first (c : Dev nD) (t : Fin cfg0.N) (hc : t.val % 8 = 0) :
    (outsAt0 m c t.val t.isLt).2 = k0_pay1 (iblk m c 1 t) := by
  rw [outsAt0_A m c t hc]; frame_out

/-- The scratch holds the column block's weights after every point. -/
theorem scratch (c : Dev nD) (n : ℕ) : ∀ t : Fin cfg0.N, t.val = n → (outsAt0 m c t.val t.isLt).2 = k0_pay1 (iblk m c 1 t) := by
  induction n with
  | zero => intro t ht; exact scratch_first m c t (by rw [ht])
  | succ n ih =>
    intro t ht
    by_cases hc : t.val % 8 = 0
    · exact scratch_first m c t hc
    · have e := ih ⟨t.val - 1, Nat.lt_of_le_of_lt (Nat.sub_le _ _) t.isLt⟩ (by simp only; omega)
      rw [wblk_eq m c _ t (by simp only; omega)] at e
      rw [outsAt0_B m c t hc]
      dsimp only [sout0_B_0]
      exact e

/-- So at a later point of a column block the scratch holds that point's weights. -/
theorem scratch_before (c : Dev nD) (t : Fin cfg0.N) (hc : ¬t.val % 8 = 0) :
    (outsAt0 m c (t.val - 1) (Nat.lt_of_le_of_lt (Nat.sub_le _ _) t.isLt)).2 = k0_pay1 (iblk m c 1 t) :=
  (scratch m c _ ⟨t.val - 1, Nat.lt_of_le_of_lt (Nat.sub_le _ _) t.isLt⟩ rfl).trans (congrArg k0_pay1 (wblk_eq m c _ t (by simp only; omega)))

/-- Reading back the whole scratch gives what was put there. -/
theorem scratch_read (h : (Memref.whole cc0_scratch0 : Memref sig .tc .vmem S2048x1024 .bf16).IsWhole) (X : Vec Ideal S2048x1024 .bf16) :
    View.read (Elt Ideal) (View.whole cc0_scratch0) (h.unread X) = X := h.read_unread X

/-- One element of a point's block. -/
theorem point (c : Dev nD) (t : Fin cfg0.N) (y : S1024x1024.Idx) :
    (outsAt0 m c t.val t.isLt).1 y
      = REF (m ((c : Thread nD τ).loc main_arg0)) (m ((c : Thread nD τ).loc main_arg1)) (((cfg0.win 2).blk t).view.emb y) := by
  by_cases hc : t.val % 8 = 0
  · rw [outsAt0_A m c t hc]; frame_out
    canon_tiles x h
    all_goals (pointwise [k0_pay1, k0_pay2, k0_pay3, k0_pay4, k0_pay5, REF]; blk_point [iblk, V, idx_val t])
  · rw [outsAt0_B m c t hc, scratch_before m c t hc]; frame_out
    simp only [scratch_read]
    canon_tiles x h
    all_goals (pointwise [k0_pay1, k0_pay2, k0_pay3, k0_pay4, k0_pay5, REF]; blk_point [iblk, V, idx_val t])

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.HgrnVIdeal.Value

end
-- ==== Proof.HgrnGate.lean ====
/- The projection to the recurrence's forward gate, and the gate's logarithm: what the array holds after the run is the reference's result. -/
module

public import proofs.«01_k».proof.Proof.Gen.HgrnGateIdeal.Value
public import proofs.«01_k».proof.Proof.Gen.HgrnGateRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.HgrnGateRefIdeal.Value

open Cert.HgrnGateRefIdeal Cert.HgrnGateRefIdeal.Gen

/-- The exponentials of the raw bounds under their largest over the layers, -/
def RISE (b : FVec Ideal S2x2x2048 .f32) : FVec Ideal S2x2x2048 .f32 :=
  Host.exp (subf b (broadcastInDim S2x2x2048 ![0, 1, 2] bcast_S2x1x2048_S2x2x2048_0_1_2 (broadcastInDim S2x1x2048 ![0, 2] bcast_S2x2048_S2x1x2048_0_2 (maximumf (broadcastInDim S2x2048 ![] bcast_S_S2x2048 (constant S_ .f32 0xFF800000#32)) (Host.reduce FloatOps.maximumf b (constant S_ .f32 0xFF800000#32) reducesTo_S2x2x2048_S2x2048_d1 h_S_)))))

/-- their softmax, -/
def SOFT (b : FVec Ideal S2x2x2048 .f32) : FVec Ideal S2x2x2048 .f32 :=
  Host.divf (RISE b) (broadcastInDim S2x2x2048 ![0, 1, 2] bcast_S2x1x2048_S2x2x2048_0_1_2 (broadcastInDim S2x1x2048 ![0, 2] bcast_S2x2048_S2x1x2048_0_2 (Host.reduceAdd (RISE b) (constant S_ .f32 0x00000000#32) reducesTo_S2x2x2048_S2x2048_d1 h_S_)))

/-- and its sums over the layers so far. -/
def CUM (p : FVec Ideal S2x2x2048 .f32) : FVec Ideal S2x2x2048 .f32 :=
  Host.reduceWindowAdd ![1, 2, 1] ![1, 1, 1] ![0, 1, 0] ![0, 0, 0] p (broadcastInDim S_ ![] bcast_S_S_ (constant S_ .f32 0x00000000#32)) reduceWindows_S2x2x2048_S2x2x2048_w1s1p0_0_w2s1p1_0_w1s1p0_0 h_S_

/-- The forward direction's bound of the second layer, the first layer's shifted to 0. -/
def BOUND (b : FVec Ideal S2x2x2048 .f32) : FVec Ideal S2048 .f32 :=
  shapeCast _ (extractStridedSlice S1x1x2048 ![0, 1, 0] (subf (CUM (SOFT b)) (broadcastInDim S2x2x2048 ![0, 1, 2] bcast_S2x1x2048_S2x2x2048_0_1_2 (extractStridedSlice S2x1x2048 ![0, 0, 0] (CUM (SOFT b)) slices_S2x2x2048_S2x1x2048_0_0_0))) slices_S2x2x2048_S1x1x2048_0_1_0) shapeCasts_S1x1x2048_S2048

/-- The second layer's projection to the gate's columns. -/
def PROJ (h : FVec Ideal S8192x2048 .bf16) (w : FVec Ideal S2x2048x10240 .f32) : FVec Ideal S8192x2048 .f32 :=
  extractStridedSlice S8192x2048 ![0, 2048] (Host.dotGeneral dot_S8192x2048_S2048x10240_S8192x10240_1_0_0_1_n_n none (extf .f32 h bitsLt_bf16_f32) (shapeCast _ (extractStridedSlice S1x2048x10240 ![1, 0, 0] w slices_S2x2048x10240_S1x2048x10240_1_0_0) shapeCasts_S1x2048x10240_S2048x10240)) slices_S8192x10240_S8192x2048_0_2048

/-- A row of values at every token. -/
def ROWS (b : FVec Ideal S2048 .f32) : FVec Ideal S8192x2048 .f32 :=
  broadcastInDim S8192x2048 ![0, 1] bcast_S1x2048_S8192x2048_0_1 (broadcastInDim S1x2048 ![1] bcast_S2048_S1x2048_1 b)

/-- The reference's result. -/
def REF (h : FVec Ideal S8192x2048 .bf16) (w : FVec Ideal S2x2048x10240 .f32) (b : FVec Ideal S2x2x2048 .f32) : FVec Ideal S8192x2048 .f32 :=
  Host.divf (Host.log (addf (ROWS (BOUND b)) (mulf (ROWS (subf (broadcastInDim S2048 ![] bcast_S_S2048 (constant S_ .f32 0x3F800000#32)) (BOUND b)))
    (Host.divf (broadcastInDim S8192x2048 ![] bcast_S_S8192x2048 (constant S_ .f32 0x3F800000#32)) (addf (broadcastInDim S8192x2048 ![] bcast_S_S8192x2048 (constant S_ .f32 0x3F800000#32)) (Host.exp (Host.negf (PROJ h w))))))))
    (broadcastInDim S8192x2048 ![] bcast_S_S8192x2048 (Host.log (constant S_ .f32 0x40000000#32)))

theorem res_eq (m : (ℓ : Loc nD τ sig) → Buf (Elt Ideal) ℓ) (c : Dev nD) :
    res_main_v41 m c = REF (m ((c.tc : Thread nD τ).loc main_arg0)) (m ((c.tc : Thread nD τ).loc main_arg1)) (m ((c.tc : Thread nD τ).loc main_arg2)) := rfl

/-- The pattern of −∞ denotes the least value. -/
theorem least : Ideal.ofBits .f32 0xFF800000#32 = ⊥ := by simp [Ideal.ofBits, Ideal.ieee]

/-- The largest of two from −∞. -/
theorem max_two (f : Fin 2 → EReal) : Finset.fold max (Ideal.ofBits .f32 0xFF800000#32) f Finset.univ = max (f 0) (f 1) := by
  rw [least, show (Finset.univ : Finset (Fin 2)) = {0, 1} from rfl, Finset.fold_insert (by decide), Finset.fold_singleton, max_bot_right]

/-- Dividing by the logarithm of 2 is multiplying by its inverse. -/
theorem div_log_two (x : EReal) : Ideal.div x (Ideal.log (Ideal.ofBits .f32 0x40000000#32)) = x * (((Real.log 2)⁻¹ : ℝ) : EReal) := by
  have two : Ideal.ofBits .f32 0x40000000#32 = ((2 : ℝ) : EReal) := by simp [Ideal.ofBits, Ideal.ieee, -EReal.coe_mul]; norm_num
  rw [two, Ideal.log_coe, if_neg (by norm_num : ¬(2 : ℝ) ≤ 0), Ideal.div_coe (Real.log_pos (by norm_num)).ne', one_div]

/-- A window's two positions, -/
theorem window : List.finRange (Shape.numel ⟨3, ![1, 2, 1]⟩) = [⟨0, by decide⟩, ⟨1, by decide⟩] := by decide

/-- the first at its start, -/
theorem window_fst : ∀ a : Fin 3, ((⟨3, ![1, 2, 1]⟩ : Shape).rowMajor.symm ⟨0, by decide⟩ a).val = 0 := by decide +kernel

/-- the second one layer on. -/
theorem window_snd : ∀ a : Fin 3, ((⟨3, ![1, 2, 1]⟩ : Shape).rowMajor.symm ⟨1, by decide⟩ a).val = ![0, 1, 0] a := by decide +kernel

/-- A window's entry at a position of the operand. -/
theorem entry (p : FVec Ideal S2x2x2048 .f32) (n : Fin 2048) (r : Fin 2) (f : Fin 3 → ℕ) (hf : ∀ a, f a = ![0, r.val + 1, n.val] a) (z : EReal) :
    (if hin : ∀ a, ![0, 1, 0] a ≤ f a ∧ f a - ![0, 1, 0] a < S2x2x2048.size a then p (fun a => ⟨f a - ![0, 1, 0] a, (hin a).2⟩) else z) = p (ix3 0 r n) := by
  rw [dif_pos (fun a => by
    rw [hf]
    match a with
    | ⟨0, _⟩ => exact ⟨Nat.le_refl _, (by decide : 0 - 0 < 2)⟩
    | ⟨1, _⟩ => exact ⟨Nat.le_add_left _ _, r.isLt⟩
    | ⟨2, _⟩ => exact ⟨Nat.zero_le _, n.isLt⟩)]
  refine congrArg p (funext fun a => Fin.ext ?_)
  simp only [hf]
  match a with
  | ⟨0, _⟩ => rfl
  | ⟨1, _⟩ => rfl
  | ⟨2, _⟩ => rfl

/-- A window's sum, position by position. -/
theorem CUM_eq (p : FVec Ideal S2x2x2048 .f32) (r : Fin 2) (n : Fin 2048) : CUM p (ix3 0 r n)
    = (0 + if hin : ∀ a, ![0, 1, 0] a ≤ ![0, r.val, n.val] a ∧ ![0, r.val, n.val] a - ![0, 1, 0] a < S2x2x2048.size a then
        p (fun a => ⟨![0, r.val, n.val] a - ![0, 1, 0] a, (hin a).2⟩) else 0) + p (ix3 0 r n) := by
  have zero : Ideal.ofBits .f32 0x00000000#32 = 0 := by simp [Ideal.ofBits, Ideal.ieee]
  unfold CUM Host.reduceWindowAdd
  change Host.reduceWindow (fun a b : EReal => a + b) ![1, 2, 1] ![1, 1, 1] ![0, 1, 0] ![0, 0, 0] p (fun _ => (Ideal.ofBits .f32 0x00000000#32)) reduceWindows_S2x2x2048_S2x2x2048_w1s1p0_0_w2s1p1_0_w1s1p0_0 h_S_ (ix3 0 r n) = _
  unfold Host.reduceWindow
  dsimp only
  erw [window]
  simp only [List.foldl, zero]
  congr 1
  · congr 1
    have e : (fun a : Fin 3 => ((ix3 0 r n : S2x2x2048.Idx) a).val * ![1, 1, 1] a + ((⟨3, ![1, 2, 1]⟩ : Shape).rowMajor.symm ⟨0, by decide⟩ a).val) = ![0, r.val, n.val] := by
      funext a
      rw [window_fst]
      match a with
      | ⟨0, _⟩ => rfl
      | ⟨1, _⟩ => show r.val * 1 + 0 = r.val; omega
      | ⟨2, _⟩ => show n.val * 1 + 0 = n.val; omega
    exact congrArg (fun f : Fin 3 → ℕ => if hin : ∀ a, ![0, 1, 0] a ≤ f a ∧ f a - ![0, 1, 0] a < S2x2x2048.size a then p (fun a => ⟨f a - ![0, 1, 0] a, (hin a).2⟩) else 0) e
  · refine entry p n r (fun a : Fin 3 => ((ix3 0 r n : S2x2x2048.Idx) a).val * ![1, 1, 1] a + ((⟨3, ![1, 2, 1]⟩ : Shape).rowMajor.symm ⟨1, by decide⟩ a).val) (fun a => ?_) 0
    rw [window_snd]
    match a with
    | ⟨0, _⟩ => rfl
    | ⟨1, _⟩ => show r.val * 1 + 1 = r.val + 1; omega
    | ⟨2, _⟩ => show n.val * 1 + 0 = n.val; omega

/-- The first layer's sum is its own entry, -/
theorem CUM_fst (p : FVec Ideal S2x2x2048 .f32) (n : Fin 2048) : CUM p (ix3 0 0 n) = p (ix3 0 0 n) := by
  rw [CUM_eq, dif_neg (fun h => absurd (h 1).1 (Nat.not_succ_le_zero 0)), zero_add, zero_add]

/-- and the second layer's both entries together. -/
theorem CUM_snd (p : FVec Ideal S2x2x2048 .f32) (n : Fin 2048) : CUM p (ix3 0 1 n) = p (ix3 0 0 n) + p (ix3 0 1 n) := by
  rw [CUM_eq, zero_add]
  exact congrArg (· + _) (entry p n 0 ![0, 1, n.val] (fun a => rfl) 0)

/-- The second layer's bound of a softmax over two layers, from the two raw bounds. -/
def bound (a b : EReal) : EReal :=
  Ideal.div (Ideal.exp (a - max a b)) (Ideal.exp (a - max a b) + Ideal.exp (b - max a b))
    + Ideal.div (Ideal.exp (b - max a b)) (Ideal.exp (a - max a b) + Ideal.exp (b - max a b))
    - Ideal.div (Ideal.exp (a - max a b)) (Ideal.exp (a - max a b) + Ideal.exp (b - max a b))

theorem SOFT_at (b : FVec Ideal S2x2x2048 .f32) (r : Fin 2) (n : Fin 2048) : SOFT b (ix3 0 r n)
    = Ideal.div (Ideal.exp (b (ix3 0 r n) - max (b (ix3 0 0 n)) (b (ix3 0 1 n)))) (Ideal.exp (b (ix3 0 0 n) - max (b (ix3 0 0 n)) (b (ix3 0 1 n))) + Ideal.exp (b (ix3 0 1 n) - max (b (ix3 0 0 n)) (b (ix3 0 1 n)))) := by
  pointwise [SOFT, RISE]
  simp only [max_two, Fin.sum_univ_two]
  simp only [least, max_bot_left]

theorem BOUND_at (b : FVec Ideal S2x2x2048 .f32) (n : Fin 2048) : BOUND b (ix1 n) = bound (b (ix3 0 0 n)) (b (ix3 0 1 n)) := by
  pointwise [BOUND]
  simp only [CUM_fst, CUM_snd, SOFT_at, bound]

end Cert.HgrnGateRefIdeal.Value

namespace Cert.HgrnGateIdeal.Value

open Cert.HgrnGateIdeal Cert.HgrnGateIdeal.Gen
open Cert.HgrnGateRefIdeal.Value (REF bound max_two div_log_two BOUND_at)

theorem pay4_at (v : Vec Ideal S1x2x1024 .f32) (n : Fin 1024) : k0_pay4 (F := Ideal) v (ix2 0 n) = bound (v (ix3 0 0 n)) (v (ix3 0 1 n)) := by
  pointwise [k0_pay4, bound]
  simp only [max_two, Fin.sum_univ_two]

variable (m : (ℓ : Loc nD τ sig) → Buf (Elt Ideal) ℓ)

/-- Which block each window has at a grid point. -/
theorem idx_val : ∀ t : Fin cfg0.N, win0_0.index t = ![t.val % 8, 0] ∧ win0_1.index t = ![1, 0, 2 + t.val / 8]
    ∧ win0_2.index t = ![0, 0, t.val / 8] ∧ win0_3.index t = ![t.val % 8, t.val / 8] ∧ t.val / 8 < 2 :=
  (by decide +kernel : ∀ t : Fin grid0.N, _)

/-- Two points of the same column block stage the same weights. -/
theorem wblk_eq (c : Dev nD) (t t' : Fin cfg0.N) (h : t.val / 8 = t'.val / 8) : iblk m c 1 t = iblk m c 1 t' := by
  funext y
  blk_ext [iblk, V, idx_val t, idx_val t', h]

/-- A column block's first point puts its weights in the scratch. -/
theorem scratch_first (c : Dev nD) (t : Fin cfg0.N) (hc : t.val % 8 = 0) :
    (outsAt0 m c t.val t.isLt).2 = k0_pay3 (iblk m c 1 t) := by
  rw [outsAt0_A m c t hc]; frame_out

/-- The scratch holds the column block's weights after every point. -/
theorem scratch (c : Dev nD) (n : ℕ) : ∀ t : Fin cfg0.N, t.val = n → (outsAt0 m c t.val t.isLt).2 = k0_pay3 (iblk m c 1 t) := by
  induction n with
  | zero => intro t ht; exact scratch_first m c t (by rw [ht])
  | succ n ih =>
    intro t ht
    by_cases hc : t.val % 8 = 0
    · exact scratch_first m c t hc
    · have e := ih ⟨t.val - 1, Nat.lt_of_le_of_lt (Nat.sub_le _ _) t.isLt⟩ (by simp only; omega)
      rw [wblk_eq m c _ t (by simp only; omega)] at e
      rw [outsAt0_B m c t hc]
      dsimp only [sout0_B_0]
      exact e

/-- So at a later point of a column block the scratch holds that point's weights. -/
theorem scratch_before (c : Dev nD) (t : Fin cfg0.N) (hc : ¬t.val % 8 = 0) :
    (outsAt0 m c (t.val - 1) (Nat.lt_of_le_of_lt (Nat.sub_le _ _) t.isLt)).2 = k0_pay3 (iblk m c 1 t) :=
  (scratch m c _ ⟨t.val - 1, Nat.lt_of_le_of_lt (Nat.sub_le _ _) t.isLt⟩ rfl).trans (congrArg k0_pay3 (wblk_eq m c _ t (by simp only; omega)))

/-- Reading back the whole scratch gives what was put there. -/
theorem scratch_read (h : (Memref.whole cc0_scratch0 : Memref sig .tc .vmem S2048x1024 .bf16).IsWhole) (X : Vec Ideal S2048x1024 .bf16) :
    View.read (Elt Ideal) (View.whole cc0_scratch0) (h.unread X) = X := h.read_unread X

/-- The inverse of 2's logarithm is the constant's value. -/
theorem inv_log_two : Named.named (F := Ideal) (φ := .f32) κ "INV_LN2" 0x3FB8AA3B#32 = (((Real.log 2)⁻¹ : ℝ) : EReal) :=
  IdealRules.named_const.ideal_named_scalar _ _ _ _ rfl

/-- The logarithm of the gate of equal bounds and equal projections. -/
theorem gate_eq {p b s s' k : EReal} (h : p = b) (hs : s = s') :
    Ideal.log (p + (1 - p) * Ideal.div 1 (1 + Ideal.exp (-s))) * k = Ideal.log (b + (1 - b) * Ideal.div 1 (1 + Ideal.exp (-s'))) * k := by
  rw [h, hs]

/-- One element of a point's block. -/
theorem point (c : Dev nD) (t : Fin cfg0.N) (y : S1024x1024.Idx) :
    (outsAt0 m c t.val t.isLt).1 y
      = REF (m ((c : Thread nD τ).loc main_arg0)) (m ((c : Thread nD τ).loc main_arg1)) (m ((c : Thread nD τ).loc main_arg2)) (((cfg0.win 3).blk t).view.emb y) := by
  by_cases hc : t.val % 8 = 0
  · rw [outsAt0_A m c t hc]; frame_out
    canon_tiles x h
    all_goals pointwise [k0_pay1, k0_pay2, k0_pay3, k0_pay5, k0_pay6, k0_pay7, k0_pay8, k0_pay9, k0_pay10, k0_pay11, k0_pay12, REF, Cert.HgrnGateRefIdeal.Value.ROWS, Cert.HgrnGateRefIdeal.Value.PROJ, zero_sub]
    all_goals rw [div_log_two, inv_log_two]
    all_goals refine gate_eq ((pay4_at _ _).trans (Eq.trans (congrArg₂ bound ?_ ?_) (BOUND_at _ _).symm)) ?_
    all_goals blk_point [iblk, V, idx_val t]
  · rw [outsAt0_B m c t hc, scratch_before m c t hc]; frame_out
    simp only [scratch_read]
    canon_tiles x h
    all_goals pointwise [k0_pay1, k0_pay2, k0_pay3, k0_pay5, k0_pay6, k0_pay7, k0_pay8, k0_pay9, k0_pay10, k0_pay11, k0_pay12, REF, Cert.HgrnGateRefIdeal.Value.ROWS, Cert.HgrnGateRefIdeal.Value.PROJ, zero_sub]
    all_goals rw [div_log_two, inv_log_two]
    all_goals refine gate_eq ((pay4_at _ _).trans (Eq.trans (congrArg₂ bound ?_ ?_) (BOUND_at _ _).symm)) ?_
    all_goals blk_point [iblk, V, idx_val t]

/-- The array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

/-- The run's result, the arguments unchanged. -/
theorem run_value (ρ : Dev nD → PrngReg) : θ_run defs (onTc (τ := τ) (main (F := Ideal))) ⟨m, fun _ => 0, ρ⟩ fun r => ∀ c : Dev nD,
      r.2.mem ((c : Thread nD τ).loc main_v0) = REF (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.HgrnGateIdeal.Value

end
-- ==== Proof.Norm.lean ====
/- The first layer's norm: what the array holds after the run is the reference's result. -/
module

public import proofs.«01_k».proof.Proof.Gen.NormIdeal.Value
public import proofs.«01_k».proof.Proof.Gen.NormRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormRefIdeal.Value

open Cert.NormRefIdeal Cert.NormRefIdeal.Gen

/-- The reference's result as a function of its two arguments. -/
def REF (x : FVec Ideal S8192x2048 .f32) (n : FVec Ideal S2048 .f32) : FVec Ideal S8192x2048 .bf16 :=
  truncf .bf16 (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 n))) bitsLt_bf16_f32

end Cert.NormRefIdeal.Value

namespace Cert.NormIdeal.Value

open Cert.NormIdeal Cert.NormIdeal.Gen
open Cert.NormRefIdeal.Value (REF)

variable (m : (ℓ : Loc nD τ sig) → Buf (Elt Ideal) ℓ)

/-- Which block each window has at a grid point. -/
theorem idx_val : ∀ t : Fin cfg0.N, win0_0.index t = ![t.val, 0] ∧ win0_1.index t = ![0, 0] ∧ win0_2.index t = ![t.val, 0] :=
  (by decide +kernel : ∀ t : Fin grid0.N, _)

/-- One element of a point's block. -/
theorem point (c : Dev nD) (t : Fin cfg0.N) (y : S512x2048.Idx) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx_val t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormIdeal.Value

end
-- ==== Proof.FfnOutNext.lean ====
/- The FFN's second projection with its norm, residual and the next layer's norm: what the two arrays hold after the run is the reference's two results. -/
module

public import proofs.«01_k».proof.Proof.Gen.FfnOutNextIdeal.Value
public import proofs.«01_k».proof.Proof.Gen.FfnOutNextRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnOutNextRefIdeal.Value

open Cert.FfnOutNextRefIdeal Cert.FfnOutNextRefIdeal.Gen

/-- A norm over rows of 2048, with its weights. -/
def NORM (x : FVec Ideal S8192x2048 .f32) (n : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 n))

/-- The activations' product with the first layer's weights. -/
def PROD (a : FVec Ideal S8192x5632 .bf16) (w : FVec Ideal S4x5632x2048 .f32) : FVec Ideal S8192x2048 .f32 :=
  Host.dotGeneral dot_S8192x5632_S5632x2048_S8192x2048_1_0_0_1_n_n none (extf .f32 a bitsLt_bf16_f32) (shapeCast _ (extractStridedSlice S1x5632x2048 ![0, 0, 0] w slices_S4x5632x2048_S1x5632x2048_0_0_0) shapeCasts_S1x5632x2048_S5632x2048)

/-- The reference's first result: the new residual. -/
def REFX (a : FVec Ideal S8192x5632 .bf16) (w : FVec Ideal S4x5632x2048 .f32) (x : FVec Ideal S8192x2048 .f32)
    (n : FVec Ideal S2048 .f32) : FVec Ideal S8192x2048 .f32 :=
  addf x (NORM (PROD a w) n)

/-- The reference's second result: the next sublayer's input. -/
def REFH (a : FVec Ideal S8192x5632 .bf16) (w : FVec Ideal S4x5632x2048 .f32) (x : FVec Ideal S8192x2048 .f32)
    (n n' : FVec Ideal S2048 .f32) : FVec Ideal S8192x2048 .bf16 :=
  truncf .bf16 (NORM (REFX a w x n) n') bitsLt_bf16_f32

end Cert.FfnOutNextRefIdeal.Value

namespace Cert.FfnOutNextIdeal.Value

open Cert.FfnOutNextIdeal Cert.FfnOutNextIdeal.Gen
open Cert.FfnOutNextRefIdeal.Value (NORM PROD REFX REFH)

variable (m : (ℓ : Loc nD τ sig) → Buf (Elt Ideal) ℓ)

/-- Which block each window has at a grid point. -/
theorem idx_val : ∀ t : Fin cfg0.N, win0_0.index t = ![t.val, 0] ∧ win0_1.index t = ![0, 0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- One element of a point's block of the residual. -/
theorem point_x (c : Dev nD) (t : Fin cfg0.N) (y : S256x2048.Idx) :
    k0_pay1 (iblk m c 0 t) (iblk m c 1 t) (iblk m c 2 t) (iblk m c 3 t) y
      = REFX (m ((c : Thread nD τ).loc main_arg0)) (m ((c : Thread nD τ).loc main_arg1)) (m ((c : Thread nD τ).loc main_arg2))
          (m ((c : Thread nD τ).loc main_arg3)) (((cfg0.win 5).blk t).view.emb y) := by
  pointwise [k0_pay1, REFX, NORM, PROD]
  blk_point [iblk, V, idx_val t]

/-- One element of a point's block of the next input. -/
theorem point_h (c : Dev nD) (t : Fin cfg0.N) (y : S256x2048.Idx) :
    k0_pay2 (iblk m c 0 t) (iblk m c 1 t) (iblk m c 2 t) (iblk m c 3 t) (iblk m c 4 t) y
      = REFH (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  pointwise [k0_pay2, k0_pay1, REFH, REFX, NORM, PROD]
  blk_point [iblk, V, idx_val t]

/-- The residual after the run is the reference's. -/
theorem final_x (c : Dev nD) : (dats m 0 c).arrAt 5 (cfgs 0).N
    = REFX (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  exact point_x m c t y

/-- The next input after the run is the reference's. -/
theorem final_h (c : Dev nD) : (dats m 0 c).arrAt 6 (cfgs 0).N
    = REFH (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]; frame_out
  exact point_h m c t y

end Cert.FfnOutNextIdeal.Value

end
-- ==== Proof.HgrnRecurrenceIdeal.lean ====
/- The ideal recurrence's launch: every trip of the chunk loop runs whatever its scratch holds, so every point's body runs, and the
   launch ends with its arguments as they were. -/
module

public import proofs.«01_k».proof.Proof.Gen.HgrnIdeal.Loops
public import proofs.«01_k».proof.Proof.Gen.HgrnIdeal.Frame

@[expose] public section

set_option maxRecDepth 16384

noncomputable section

namespace Cert.HgrnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

section Loop

variable (𝒱 : Variants) (c : Dev nD) (bd : Option 𝒱.V) (E : Set ℕ) (i : grid0.Coords) (arg2 : Memref sig .tc .vmem S1x4096x128 .bf16) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1x4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S16x7x80x128 .f32) (harg15 : arg15.IsWhole) (arg16 : Memref sig .tc .vmem S16x7x80x128 .f32) (harg16 : arg16.IsWhole) (v22 : IVec S64x64 32) (v23 : IVec S64x64 32) (v72 : IVec S64x64 1) (v73 : IVec S64x64 1)

/-- A buffer at some contents. -/
abbrev any {s : Shape} {e : EltTy} (c : Dev nD) (r : Memref sig .tc .vmem s e) : sProp (MT nD τ sig Unit (Elt F) ℕ (UR sig nD τ) ℕ) :=
  iprop(∃ f, r.view.loc (c : Thread nD τ) ↦[r.view.set]{fullShare} f)

/-- What a trip holds: what it reads at its contents, its scratch at any. -/
abbrev Held (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) : sProp (MT nD τ sig Unit (Elt F) ℕ (UR sig nD τ) ℕ) :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg8.view.loc (c : Thread nD τ) ↦[arg8.view.set]{fullShare} X8) ∗ (arg9.view.loc (c : Thread nD τ) ↦[arg9.view.set]{fullShare} X9)
    ∗ any (F := F) c arg11 ∗ any (F := F) c arg12 ∗ any (F := F) c arg13 ∗ any (F := F) c arg14 ∗ any (F := F) c arg15 ∗ any (F := F) c arg16)

set_option maxRecDepth 65536 in
set_option maxHeartbeats 0 in
set_option sl_exec.squeezeSlice true in
/-- One trip gives back what it was given, the scratch at whatever it now holds. -/
theorem trip (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) (k : Fin k0_t1_loop.trips) :
    Held (F := F) c arg2 arg3 arg4 arg5 arg8 arg9 arg11 arg12 arg13 arg14 arg15 arg16 X2 X3 X4 X5 X8 X9
    ⊢ wp Idealize.ShloMosaic.frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v22 v23 v72 v73 k PUnit.unit)
        (fun _ => Held (F := F) c arg2 arg3 arg4 arg5 arg8 arg9 arg11 arg12 arg13 arg14 arg15 arg16 X2 X3 X4 X5 X8 X9) := by
  have hk : k.val < 4 := Nat.lt_of_lt_of_le k.isLt k0_t1_abs.2.1
  unfold k0_t1_body
  iintro ⟨H2, H3, H4, H5, H8, H9, ⟨%f11, H11⟩, ⟨%f12, H12⟩, ⟨%f13, H13⟩, ⟨%f14, H14⟩, ⟨%f15, H15⟩, ⟨%f16, H16⟩⟩
  sl_exec_parts
  sl_step
  isplitl [H2]; · iexact H2
  isplitl [H3]; · iexact H3
  isplitl [H4]; · iexact H4
  isplitl [H5]; · iexact H5
  isplitl [H8]; · iexact H8
  isplitl [H9]; · iexact H9
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option warn.classDefReducibility false in
/-- The chunk loop keeps what it reads and says nothing of its scratch. -/
@[sl_loop] def loopInv_k0_t1 (𝒱 : Variants) (c : Dev nD) (bd : Option 𝒱.V) (E : Set ℕ) (i : grid0.Coords) (arg2 : Memref sig .tc .vmem S1x4096x128 .bf16) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1x4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S16x7x80x128 .f32) (harg15 : arg15.IsWhole) (arg16 : Memref sig .tc .vmem S16x7x80x128 .f32) (harg16 : arg16.IsWhole) (v22 : IVec S64x64 32) (v23 : IVec S64x64 32) (v72 : IVec S64x64 1) (v73 : IVec S64x64 1) (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 v22 v23 v72 v73 where
  inv _ _ := Held (F := F) c arg2 arg3 arg4 arg5 arg8 arg9 arg11 arg12 arg13 arg14 arg15 arg16 X2 X3 X4 X5 X8 X9
  step k _ := trip 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 v22 v23 v72 v73 X2 X3 X4 X5 X8 X9 k

set_option maxRecDepth 65536 in
set_option maxHeartbeats 0 in
set_option sl_exec.squeezeSlice true in
/-- The body on whole buffers: what it reads stays, the result and the scratch end at anything. -/
theorem sound_kernel (c : Dev nD) (E : Set ℕ) (i : grid0.Coords) (arg2 : Memref sig .tc .vmem S1x4096x128 .bf16) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1x4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S16x7x80x128 .f32) (harg15 : arg15.IsWhole) (arg16 : Memref sig .tc .vmem S16x7x80x128 .f32) (harg16 : arg16.IsWhole)
    (x2 : Vec F S1x4096x128 .bf16) (x3 : Vec F S1x4096x128 .f32) (x4 : Vec F S1x4096x128 .f32) (x5 : Vec F S1x4096x128 .bf16) (x6 : Vec F S1x4096x128 .bf16) (x7 : Vec F S1x128 .f32) (x8 : Vec F S1024x128 .bf16) (x9 : Vec F S1024x128 .bf16) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ any (F := F) c arg11 ∗ any (F := F) c arg12 ∗ any (F := F) c arg13 ∗ any (F := F) c arg14 ∗ any (F := F) c arg15 ∗ any (F := F) c arg16
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ any (F := F) c arg11 ∗ any (F := F) c arg12 ∗ any (F := F) c arg13 ∗ any (F := F) c arg14 ∗ any (F := F) c arg15 ∗ any (F := F) c arg16) -∗ K ()))
    ⊢ wp Idealize.ShloMosaic.frame (wpE (defs₀ (F := F)) Variants.none c none) E (cc0_hgrn_recurrence i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_hgrn_recurrence_eq_skeleton]; unfold cc0_hgrn_recurrence_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, H11⟩, ⟨%f12, H12⟩, ⟨%f13, H13⟩, ⟨%f14, H14⟩, ⟨%f15, H15⟩, ⟨%f16, H16⟩, Hk⟩
  sl_exec_parts
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; iexists _; isplitr; swap; · iexact H10
    ipureintro; rfl
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Loop

variable (m : (ℓ : Loc nD τ sig) → Buf (Elt F) ℓ) (ρ : Dev nD → PrngReg)

/-- The scratch between points: all of it at some contents, with the generator's register. -/
theorem between (c : Dev nD) : (Pipeline.ΦA spec0 c : sProp (MT nD τ sig Unit (Elt F) ℕ (UR sig nD τ) ℕ))
    = iprop((any (F := F) c (Memref.whole cc0_scratch0) ∗ any (F := F) c (Memref.whole cc0_scratch1) ∗ any (F := F) c (Memref.whole cc0_scratch2) ∗ any (F := F) c (Memref.whole cc0_scratch3) ∗ any (F := F) c (Memref.whole cc0_scratch4) ∗ any (F := F) c (Memref.whole cc0_scratch5)) ∗ ∃ r, prngReg c r) := by
  unfold Pipeline.ΦA any; rw [scopedRest0_eq]; simp only [Memref.view_whole, View.set_whole]

/-- The proof data: every window keeps its block; the result's is forgotten below. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The result's window is the one forgotten. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true

/-- What a point's body is called with, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ X, owns (c : Thread nD τ) (st0_8 t) fullShare X))

/-- and what it leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ (∃ X, owns (c : Thread nD τ) (st0_8 t) fullShare X))

theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, between,
    after0_0, after0_1, after0_2, after0_3, after0_4, after0_5, after0_6, after0_7]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 4000000 in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

set_option maxHeartbeats 4000000 in
/-- The launch ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      ((h.1 c).2 main_arg5 (Pipeline.mem_restRefs_of main_arg5 (by decide) (by decide))).trans (V_main_arg5 m c)⟩, h.2⟩) (run_main m ρ)

end Cert.HgrnIdeal.Gen

end
-- ==== Proof.lean ====
/- The claims about the layer's calls, each from its own module: the frames are the generated ones, a reference's run is its list of
   operations, and each call's value is the array its grid leaves behind, which its module shows to be the reference's result. -/
module

public import proofs.«01_k».proof.Defs
public import proofs.«01_k».proof.Proof.Gen.FfnIn.Frame
public import proofs.«01_k».proof.Proof.FfnIn
public import proofs.«01_k».proof.Proof.Gen.SconvIn.Frame
public import proofs.«01_k».proof.Proof.SconvIn
public import proofs.«01_k».proof.Proof.Gen.FfnOut.Frame
public import proofs.«01_k».proof.Proof.FfnOut
public import proofs.«01_k».proof.Proof.Gen.MixOut.Frame
public import proofs.«01_k».proof.Proof.MixOut
public import proofs.«01_k».proof.Proof.Gen.HgrnQ.Frame
public import proofs.«01_k».proof.Proof.HgrnQ
public import proofs.«01_k».proof.Proof.Gen.HgrnV.Frame
public import proofs.«01_k».proof.Proof.HgrnV
public import proofs.«01_k».proof.Proof.Gen.HgrnGate.Frame
public import proofs.«01_k».proof.Proof.HgrnGate
public import proofs.«01_k».proof.Proof.Gen.Norm.Frame
public import proofs.«01_k».proof.Proof.Norm
public import proofs.«01_k».proof.Proof.Gen.FfnOutNext.Frame
public import proofs.«01_k».proof.Proof.FfnOutNext
public import proofs.«01_k».proof.Proof.HgrnRecurrence
public import proofs.«01_k».proof.Proof.HgrnRecurrenceIdeal
public import Idealize.ShloMosaic.Adequacy
public import Idealize.ShloMosaic.Init

@[expose] public section

noncomputable section

namespace Cert.Proof

open Idealize.ShloMosaic Idealize.SL.Sem

theorem quiescent_FfnInRefIdeal : quiescent_FfnInRefIdeal := fun m ρ _ =>
  (θ_run Cert.FfnInRefIdeal.defs _ _).mono (fun r h => ⟨fun c => (h c).2, sem_eq_zero_of_no_sems (by decide) r.2⟩)
    (Cert.FfnInRefIdeal.Value.run (F := Ideal) m ρ)

/-- Both runs' results, from arguments that agree. -/
theorem algebraic_FfnIn : algebraic_FfnInIdeal_FfnInRefIdeal := by
  intro m ρ m' ρ' _ hagree
  refine ⟨_, Cert.FfnInIdeal.Value.run_value m ρ, ?_⟩
  refine (θ_run Cert.FfnInRefIdeal.defs _ _).mono (fun _ h c => ⟨?_, (h c).2⟩) (Cert.FfnInRefIdeal.Value.run (F := Ideal) m' ρ')
  rw [(h c).1]
  simp only [Cert.FfnInRefIdeal.Value.res_eq, hagree c]

theorem quiescent_SconvInRefIdeal : quiescent_SconvInRefIdeal := fun m ρ _ =>
  (θ_run Cert.SconvInRefIdeal.defs _ _).mono (fun r h => ⟨fun c => (h c).2, sem_eq_zero_of_no_sems (by decide) r.2⟩)
    (Cert.SconvInRefIdeal.Value.run (F := Ideal) m ρ)

/-- Both runs' results, from arguments that agree. -/
theorem algebraic_SconvIn : algebraic_SconvInIdeal_SconvInRefIdeal := by
  intro m ρ m' ρ' _ hagree
  refine ⟨_, Cert.SconvInIdeal.Value.run_value m ρ, ?_⟩
  refine (θ_run Cert.SconvInRefIdeal.defs _ _).mono (fun _ h c => ⟨?_, (h c).2⟩) (Cert.SconvInRefIdeal.Value.run (F := Ideal) m' ρ')
  rw [(h c).1]
  simp only [Cert.SconvInRefIdeal.Value.res_eq, hagree c]

theorem quiescent_FfnOutRefIdeal : quiescent_FfnOutRefIdeal := fun m ρ _ =>
  (θ_run Cert.FfnOutRefIdeal.defs _ _).mono (fun r h => ⟨fun c => (h c).2, sem_eq_zero_of_no_sems (by decide) r.2⟩)
    (Cert.FfnOutRefIdeal.Value.run (F := Ideal) m ρ)

/-- Both runs' results, from arguments that agree. -/
theorem algebraic_FfnOut : algebraic_FfnOutIdeal_FfnOutRefIdeal := by
  intro m ρ m' ρ' _ hagree
  refine ⟨_, Cert.FfnOutIdeal.Value.run_blocks (F := Ideal) m ρ, ?_⟩
  refine (θ_run Cert.FfnOutRefIdeal.defs _ _).mono (fun _ h c => ⟨?_, (h c).2⟩) (Cert.FfnOutRefIdeal.Value.run (F := Ideal) m' ρ')
  rw [(h c).1]
  simp only [hagree c]
  exact (Cert.FfnOutIdeal.Value.final m c).symm

theorem quiescent_MixOutRefIdeal : quiescent_MixOutRefIdeal := fun m ρ _ =>
  (θ_run Cert.MixOutRefIdeal.defs _ _).mono (fun r h => ⟨fun c => (h c).2.2, sem_eq_zero_of_no_sems (by decide) r.2⟩)
    (Cert.MixOutRefIdeal.Value.run (F := Ideal) m ρ)

/-- Both runs' results, from arguments that agree. -/
theorem algebraic_MixOut : algebraic_MixOutIdeal_MixOutRefIdeal := by
  intro m ρ m' ρ' _ hagree
  refine ⟨_, _, Cert.MixOutIdeal.Value.run_blocks (F := Ideal) m ρ, ?_⟩
  refine (θ_run Cert.MixOutRefIdeal.defs _ _).mono (fun _ h c => ⟨?_, ?_, (h c).2.2⟩) (Cert.MixOutRefIdeal.Value.run (F := Ideal) m' ρ')
  · rw [(h c).1]
    simp only [hagree c]
    exact (Cert.MixOutIdeal.Value.final_x m c).symm
  · rw [(h c).2.1]
    simp only [Cert.MixOutRefIdeal.Value.res_main_v31, hagree c]
    exact (Cert.MixOutIdeal.Value.final_h m c).symm

theorem quiescent_HgrnQRefIdeal : quiescent_HgrnQRefIdeal := fun m ρ _ =>
  (θ_run Cert.HgrnQRefIdeal.defs _ _).mono (fun r h => ⟨fun c => (h c).2, sem_eq_zero_of_no_sems (by decide) r.2⟩)
    (Cert.HgrnQRefIdeal.Value.run (F := Ideal) m ρ)

/-- Both runs' results, from arguments that agree. -/
theorem algebraic_HgrnQ : algebraic_HgrnQIdeal_HgrnQRefIdeal := by
  intro m ρ m' ρ' _ hagree
  refine ⟨_, Cert.HgrnQIdeal.Value.run_blocks (F := Ideal) m ρ, ?_⟩
  refine (θ_run Cert.HgrnQRefIdeal.defs _ _).mono (fun _ h c => ⟨?_, (h c).2⟩) (Cert.HgrnQRefIdeal.Value.run (F := Ideal) m' ρ')
  rw [(h c).1]
  simp only [hagree c]
  exact (Cert.HgrnQIdeal.Value.final m c).symm

theorem quiescent_HgrnVRefIdeal : quiescent_HgrnVRefIdeal := fun m ρ _ =>
  (θ_run Cert.HgrnVRefIdeal.defs _ _).mono (fun r h => ⟨fun c => (h c).2, sem_eq_zero_of_no_sems (by decide) r.2⟩)
    (Cert.HgrnVRefIdeal.Value.run (F := Ideal) m ρ)

/-- Both runs' results, from arguments that agree. -/
theorem algebraic_HgrnV : algebraic_HgrnVIdeal_HgrnVRefIdeal := by
  intro m ρ m' ρ' _ hagree
  refine ⟨_, Cert.HgrnVIdeal.Value.run_blocks (F := Ideal) m ρ, ?_⟩
  refine (θ_run Cert.HgrnVRefIdeal.defs _ _).mono (fun _ h c => ⟨?_, (h c).2⟩) (Cert.HgrnVRefIdeal.Value.run (F := Ideal) m' ρ')
  rw [(h c).1]
  simp only [hagree c]
  exact (Cert.HgrnVIdeal.Value.final m c).symm

theorem quiescent_HgrnGateRefIdeal : quiescent_HgrnGateRefIdeal := fun m ρ _ =>
  (θ_run Cert.HgrnGateRefIdeal.defs _ _).mono (fun r h => ⟨fun c => (h c).2, sem_eq_zero_of_no_sems (by decide) r.2⟩)
    (Cert.HgrnGateRefIdeal.Value.run (F := Ideal) m ρ)

/-- Both runs' results, from arguments that agree. -/
theorem algebraic_HgrnGate : algebraic_HgrnGateIdeal_HgrnGateRefIdeal := by
  intro m ρ m' ρ' _ hagree
  refine ⟨_, Cert.HgrnGateIdeal.Value.run_value m ρ, ?_⟩
  refine (θ_run Cert.HgrnGateRefIdeal.defs _ _).mono (fun _ h c => ⟨?_, (h c).2⟩) (Cert.HgrnGateRefIdeal.Value.run (F := Ideal) m' ρ')
  rw [(h c).1]
  simp only [Cert.HgrnGateRefIdeal.Value.res_eq, hagree c]

/-- The named constant is the value it stands for. -/
theorem preserves_HgrnGate : preserves_HgrnGate_HgrnGateIdeal := IdealRules.named_const.statement _ _ _ _ _ rfl

theorem quiescent_NormRefIdeal : quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- Both runs' results, from arguments that agree. -/
theorem algebraic_Norm : algebraic_NormIdeal_NormRefIdeal := by
  intro m ρ m' ρ' _ hagree
  refine ⟨_, Cert.NormIdeal.Value.run_blocks (F := Ideal) m ρ, ?_⟩
  refine (θ_run Cert.NormRefIdeal.defs _ _).mono (fun _ h c => ⟨?_, (h c).2⟩) (Cert.NormRefIdeal.Value.run (F := Ideal) m' ρ')
  rw [(h c).1]
  simp only [hagree c]
  exact (Cert.NormIdeal.Value.final m c).symm

theorem quiescent_FfnOutNextRefIdeal : quiescent_FfnOutNextRefIdeal := fun m ρ _ =>
  (θ_run Cert.FfnOutNextRefIdeal.defs _ _).mono (fun r h => ⟨fun c => (h c).2.2, sem_eq_zero_of_no_sems (by decide) r.2⟩)
    (Cert.FfnOutNextRefIdeal.Value.run (F := Ideal) m ρ)

/-- Both runs' results, from arguments that agree. -/
theorem algebraic_FfnOutNext : algebraic_FfnOutNextIdeal_FfnOutNextRefIdeal := by
  intro m ρ m' ρ' _ hagree
  refine ⟨_, _, Cert.FfnOutNextIdeal.Value.run_blocks (F := Ideal) m ρ, ?_⟩
  refine (θ_run Cert.FfnOutNextRefIdeal.defs _ _).mono (fun _ h c => ⟨?_, ?_, (h c).2.2⟩) (Cert.FfnOutNextRefIdeal.Value.run (F := Ideal) m' ρ')
  · rw [(h c).1]
    simp only [hagree c]
    exact (Cert.FfnOutNextIdeal.Value.final_x m c).symm
  · rw [(h c).2.1]
    simp only [Cert.FfnOutNextRefIdeal.Value.res_main_v31, hagree c]
    exact (Cert.FfnOutNextIdeal.Value.final_h m c).symm

theorem claim : Cert.Claim := ⟨Cert.FfnIn.Gen.facts, Cert.FfnInIdeal.Gen.facts, Cert.FfnInRefIdeal.Gen.facts, Cert.SconvIn.Gen.facts, Cert.SconvInIdeal.Gen.facts, Cert.SconvInRefIdeal.Gen.facts, Cert.FfnOut.Gen.facts, Cert.FfnOutIdeal.Gen.facts, Cert.FfnOutRefIdeal.Gen.facts, Cert.MixOut.Gen.facts, Cert.MixOutIdeal.Gen.facts, Cert.MixOutRefIdeal.Gen.facts, Cert.HgrnQ.Gen.facts, Cert.HgrnQIdeal.Gen.facts, Cert.HgrnQRefIdeal.Gen.facts, Cert.HgrnV.Gen.facts, Cert.HgrnVIdeal.Gen.facts, Cert.HgrnVRefIdeal.Gen.facts, Cert.HgrnGate.Gen.facts, Cert.HgrnGateIdeal.Gen.facts, Cert.HgrnGateRefIdeal.Gen.facts, Cert.Norm.Gen.facts, Cert.NormIdeal.Gen.facts, Cert.NormRefIdeal.Gen.facts, Cert.FfnOutNext.Gen.facts, Cert.FfnOutNextIdeal.Gen.facts, Cert.FfnOutNextRefIdeal.Gen.facts, Cert.Hgrn.Gen.facts, Cert.HgrnIdeal.Gen.facts,
  fun m ρ _ => Cert.FfnIn.Gen.frame m ρ, fun m ρ _ => Cert.FfnInIdeal.Gen.frame m ρ, quiescent_FfnInRefIdeal,
  fun m ρ _ => Cert.SconvIn.Gen.frame m ρ, fun m ρ _ => Cert.SconvInIdeal.Gen.frame m ρ, quiescent_SconvInRefIdeal,
  fun m ρ _ => Cert.FfnOut.Gen.frame m ρ, fun m ρ _ => Cert.FfnOutIdeal.Gen.frame m ρ, quiescent_FfnOutRefIdeal,
  fun m ρ _ => Cert.MixOut.Gen.frame m ρ, fun m ρ _ => Cert.MixOutIdeal.Gen.frame m ρ, quiescent_MixOutRefIdeal,
  fun m ρ _ => Cert.HgrnQ.Gen.frame m ρ, fun m ρ _ => Cert.HgrnQIdeal.Gen.frame m ρ, quiescent_HgrnQRefIdeal,
  fun m ρ _ => Cert.HgrnV.Gen.frame m ρ, fun m ρ _ => Cert.HgrnVIdeal.Gen.frame m ρ, quiescent_HgrnVRefIdeal,
  fun m ρ _ => Cert.HgrnGate.Gen.frame m ρ, fun m ρ _ => Cert.HgrnGateIdeal.Gen.frame m ρ, quiescent_HgrnGateRefIdeal,
  fun m ρ _ => Cert.Norm.Gen.frame m ρ, fun m ρ _ => Cert.NormIdeal.Gen.frame m ρ, quiescent_NormRefIdeal,
  fun m ρ _ => Cert.FfnOutNext.Gen.frame m ρ, fun m ρ _ => Cert.FfnOutNextIdeal.Gen.frame m ρ, quiescent_FfnOutNextRefIdeal,
  fun m ρ _ => Cert.Hgrn.Gen.frame m ρ, fun m ρ _ => Cert.HgrnIdeal.Gen.frame m ρ,
  (trivial : preserves_FfnIn_FfnInIdeal), algebraic_FfnIn,
  (trivial : preserves_SconvIn_SconvInIdeal), algebraic_SconvIn,
  (trivial : preserves_FfnOut_FfnOutIdeal), algebraic_FfnOut,
  (trivial : preserves_MixOut_MixOutIdeal), algebraic_MixOut,
  (trivial : preserves_HgrnQ_HgrnQIdeal), algebraic_HgrnQ,
  (trivial : preserves_HgrnV_HgrnVIdeal), algebraic_HgrnV,
  preserves_HgrnGate, algebraic_HgrnGate,
  (trivial : preserves_Norm_NormIdeal), algebraic_Norm,
  (trivial : preserves_FfnOutNext_FfnOutNextIdeal), algebraic_FfnOutNext, (trivial : preserves_Hgrn_HgrnIdeal)⟩

end Cert.Proof

end
